-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "bound_1" .f32 0x3D888889#32 ((1 / 15 : ℝ) : EReal)
  ∧ IdealRules.named_const.Statement Cert.KernelIdeal.κ "bound_2" .f32 0x3E088889#32 ((2 / 15 : ℝ) : EReal)
  ∧ IdealRules.named_const.Statement Cert.KernelIdeal.κ "bound_3" .f32 0x3E4CCCCD#32 ((1 / 5 : ℝ) : EReal)
  ∧ IdealRules.named_const.Statement Cert.KernelIdeal.κ "bound_4" .f32 0x3E888889#32 ((4 / 15 : ℝ) : EReal)
  ∧ IdealRules.named_const.Statement Cert.KernelIdeal.κ "bound_5" .f32 0x3EAAAAAB#32 ((1 / 3 : ℝ) : EReal)
  ∧ IdealRules.named_const.Statement Cert.KernelIdeal.κ "bound_6" .f32 0x3ECCCCCD#32 ((2 / 5 : ℝ) : EReal)
  ∧ IdealRules.named_const.Statement Cert.KernelIdeal.κ "bound_7" .f32 0x3EEEEEEF#32 ((7 / 15 : ℝ) : EReal)
  ∧ IdealRules.named_const.Statement Cert.KernelIdeal.κ "bound_8" .f32 0x3F088889#32 ((8 / 15 : ℝ) : EReal)
  ∧ IdealRules.named_const.Statement Cert.KernelIdeal.κ "bound_9" .f32 0x3F19999A#32 ((3 / 5 : ℝ) : EReal)
  ∧ IdealRules.named_const.Statement Cert.KernelIdeal.κ "bound_10" .f32 0x3F2AAAAB#32 ((2 / 3 : ℝ) : EReal)
  ∧ IdealRules.named_const.Statement Cert.KernelIdeal.κ "bound_11" .f32 0x3F3BBBBC#32 ((11 / 15 : ℝ) : EReal)
  ∧ IdealRules.named_const.Statement Cert.KernelIdeal.κ "bound_12" .f32 0x3F4CCCCD#32 ((4 / 5 : ℝ) : EReal)
  ∧ IdealRules.named_const.Statement Cert.KernelIdeal.κ "bound_13" .f32 0x3F5DDDDE#32 ((13 / 15 : ℝ) : EReal)
  ∧ IdealRules.named_const.Statement Cert.KernelIdeal.κ "bound_14" .f32 0x3F6EEEEF#32 ((14 / 15 : ℝ) : EReal)

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v437) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ preserves_Kernel_KernelIdeal
    ∧ algebraic_KernelIdeal_ReferenceIdeal_pre_finite_logits (hKernelIdeal := hKernelIdeal) (hReferenceIdeal := hReferenceIdeal) (hPre_finite_logits := hPre_finite_logits)
-- ==== Pre_finite_logits.lean ====
abbrev S200000x100 : Shape := ⟨2, ![200000, 100]⟩
abbrev S200000 : Shape := ⟨1, ![200000]⟩
abbrev S_ : Shape := ⟨0, ![]⟩

class Facts : Prop where
  bcast_S_S200000x100 : S_.BroadcastsInDim S200000x100 (![] : Fin 0 → Fin S200000x100.rank)
  reducesTo_S200000x100_S_d0_1 : S200000x100.ReducesTo [0, 1] S_
  h_S_ : 0 < S_.numel

variable [Facts]

def fn {F : FTy → Type} [FloatOps F] (main_arg0 : FVec F S200000x100 .f32) (main_arg1 : IVec S200000 32) : IVec S_ 1 :=
  let main_v0 : FVec F S200000x100 .f32 := Host.absf main_arg0
  let main_cst : FVec F S_ .f32 := constant S_ .f32 0x7F800000#32
  let main_v1 : FVec F S200000x100 .f32 := broadcastInDim S200000x100 ![] bcast_S_S200000x100 main_cst
  let main_v2 : IVec S200000x100 1 := cmpf .olt main_v0 main_v1
  let main_c : IVec S_ 1 := constantI S_ 1 1#1
  let main_v3 : IVec S_ 1 := (fun x v => Host.reduce IntOp.andi x v reducesTo_S200000x100_S_d0_1 h_S_) main_v2 main_c
  main_v3
-- ==== Kernel.lean ====
abbrev S200000x100 : Shape := ⟨2, ![200000, 100]⟩
abbrev S200000 : Shape := ⟨1, ![200000]⟩
abbrev S100x200000 : Shape := ⟨2, ![100, 200000]⟩
abbrev S1x200000 : Shape := ⟨2, ![1, 200000]⟩
abbrev S1x1 : Shape := ⟨2, ![1, 1]⟩
abbrev S100x3840 : Shape := ⟨2, ![100, 3840]⟩
abbrev S1x3840 : Shape := ⟨2, ![1, 3840]⟩
abbrev S15x100x128 : Shape := ⟨3, ![15, 100, 128]⟩
abbrev S100x1 : Shape := ⟨2, ![100, 1]⟩
abbrev S1x128 : Shape := ⟨2, ![1, 128]⟩
abbrev S100x128 : Shape := ⟨2, ![100, 128]⟩
abbrev S128 : Shape := ⟨1, ![128]⟩
abbrev S1x100x128 : Shape := ⟨3, ![1, 100, 128]⟩
abbrev S15x100 : Shape := ⟨2, ![15, 100]⟩
abbrev S1x100 : Shape := ⟨2, ![1, 100]⟩
abbrev S1x1x100 : Shape := ⟨3, ![1, 1, 100]⟩
abbrev S1 : Shape := ⟨1, ![1]⟩
abbrev S1x1x1 : Shape := ⟨3, ![1, 1, 1]⟩
abbrev S14x100 : Shape := ⟨2, ![14, 100]⟩
abbrev S1x14x100 : Shape := ⟨3, ![1, 14, 100]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S200000x100, .f32⟩
  | .hbm, ⟨1, _⟩ => ⟨S200000, .i32⟩
  | .hbm, ⟨2, _⟩ => ⟨S100x200000, .f32⟩
  | .hbm, ⟨3, _⟩ => ⟨S1x200000, .i32⟩
  | .hbm, ⟨4, _⟩ => ⟨S1x1, .f32⟩
  | .hbm, ⟨5, _⟩ => ⟨S_, .f32⟩
  | .local _ .vmem, ⟨0, _⟩ => ⟨S100x3840, .f32⟩
  | .local _ .vmem, ⟨1, _⟩ => ⟨S100x3840, .f32⟩
  | .local _ .vmem, ⟨2, _⟩ => ⟨S1x3840, .i32⟩
  | .local _ .vmem, ⟨3, _⟩ => ⟨S1x3840, .i32⟩
  | .local _ .vmem, ⟨4, _⟩ => ⟨S1x1, .f32⟩
  | .local _ .vmem, ⟨5, _⟩ => ⟨S15x100x128, .f32⟩
  | _, _ => ⟨S200000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![53], ![false]⟩

def k0_cond2 (i : grid0.Coords) : BitVec 1 :=
  let arg0 : BitVec 32 := BitVec.ofNat 32 (i 0).val
  let c52_i32 : BitVec 32 := 52#32
  let v5705 : BitVec 1 := Scalar.cmpi .eq arg0 c52_i32
  let v5706 : BitVec 32 := Scalar.extui v5705
  let c0_i32_4665 : BitVec 32 := 0#32
  let v5707 : BitVec 1 := Scalar.cmpi .ne v5706 c0_i32_4665
  v5707

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S100x3840 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3840 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "bound_1" => some ((1 / 15 : ℝ) : EReal)
  | "bound_10" => some ((2 / 3 : ℝ) : EReal)
  | "bound_11" => some ((11 / 15 : ℝ) : EReal)
  | "bound_12" => some ((4 / 5 : ℝ) : EReal)
  | "bound_13" => some ((13 / 15 : ℝ) : EReal)
  | "bound_14" => some ((14 / 15 : ℝ) : EReal)
  | "bound_2" => some ((2 / 15 : ℝ) : EReal)
  | "bound_3" => some ((1 / 5 : ℝ) : EReal)
  | "bound_4" => some ((4 / 15 : ℝ) : EReal)
  | "bound_5" => some ((1 / 3 : ℝ) : EReal)
  | "bound_6" => some ((2 / 5 : ℝ) : EReal)
  | "bound_7" => some ((7 / 15 : ℝ) : EReal)
  | "bound_8" => some ((8 / 15 : ℝ) : EReal)
  | "bound_9" => some ((3 / 5 : ℝ) : EReal)
  | _ => none
-- ==== ReferenceIdeal.lean ====
abbrev S200000x100 : Shape := ⟨2, ![200000, 100]⟩
abbrev S200000 : Shape := ⟨1, ![200000]⟩
abbrev S_ : Shape := ⟨0, ![]⟩
abbrev S15 : Shape := ⟨1, ![15]⟩
abbrev S1 : Shape := ⟨1, ![1]⟩
abbrev S16 : Shape := ⟨1, ![16]⟩
abbrev S200000x1 : Shape := ⟨2, ![200000, 1]⟩
abbrev S1x100 : Shape := ⟨2, ![1, 100]⟩
abbrev S100 : Shape := ⟨1, ![100]⟩

abbrev nBuf : Space → Nat
  | .hbm => 608
  | .vmem => 0
  | .smem => 0
  | _ => 0

abbrev hbmTy0_0 (i : Nat) : BufTy := match i % 128 with
  | 0 => ⟨S200000x100, .f32⟩
  | 1 => ⟨S200000, .i32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S15, .f32⟩
  | 10 => ⟨S_, .f32⟩
  | 11 => ⟨S15, .f32⟩
  | 12 => ⟨S15, .f32⟩
  | 13 => ⟨S1, .f32⟩
  | 14 => ⟨S_, .f32⟩
  | 15 => ⟨S15, .f32⟩
  | 16 => ⟨S15, .f32⟩
  | 17 => ⟨S15, .f32⟩
  | 18 => ⟨S15, .f32⟩
  | 19 => ⟨S1, .f32⟩
  | 20 => ⟨S15, .f32⟩
  | 21 => ⟨S15, .f32⟩
  | 22 => ⟨S15, .f32⟩
  | 23 => ⟨S1, .f32⟩
  | 24 => ⟨S16, .f32⟩
  | 25 => ⟨S15, .f32⟩
  | 26 => ⟨S15, .f32⟩
  | 27 => ⟨S_, .f32⟩
  | 28 => ⟨S200000, .f32⟩
  | 29 => ⟨S_, .f32⟩
  | 30 => ⟨S200000, .f32⟩
  | 31 => ⟨S200000, .f32⟩
  | 32 => ⟨S200000x1, .f32⟩
  | 33 => ⟨S200000x100, .f32⟩
  | 34 => ⟨S200000x100, .f32⟩
  | 35 => ⟨S200000x100, .f32⟩
  | 36 => ⟨S_, .f32⟩
  | 37 => ⟨S200000, .f32⟩
  | 38 => ⟨S200000x1, .f32⟩
  | 39 => ⟨S200000x100, .f32⟩
  | 40 => ⟨S200000x100, .f32⟩
  | 41 => ⟨S200000x1, .i32⟩
  | 42 => ⟨S1x100, .i32⟩
  | 43 => ⟨S200000x100, .i32⟩
  | 44 => ⟨S200000x100, .i32⟩
  | 45 => ⟨S200000x100, .i1⟩
  | 46 => ⟨S200000x100, .f32⟩
  | 47 => ⟨S_, .f32⟩
  | 48 => ⟨S100, .f32⟩
  | 49 => ⟨S1, .f32⟩
  | 50 => ⟨S_, .f32⟩
  | 51 => ⟨S200000x100, .f32⟩
  | 52 => ⟨S200000x100, .i1⟩
  | 53 => ⟨S1, .f32⟩
  | 54 => ⟨S_, .f32⟩
  | 55 => ⟨S200000x100, .f32⟩
  | 56 => ⟨S200000x100, .i1⟩
  | 57 => ⟨S200000x100, .i1⟩
  | 58 => ⟨S200000x100, .f32⟩
  | 59 => ⟨S_, .f32⟩
  | 60 => ⟨S100, .f32⟩
  | 61 => ⟨S_, .f32⟩
  | 62 => ⟨S100, .f32⟩
  | 63 => ⟨S100, .f32⟩
  | 64 => ⟨S200000x100, .f32⟩
  | 65 => ⟨S_, .f32⟩
  | 66 => ⟨S100, .f32⟩
  | 67 => ⟨S200000x100, .f32⟩
  | 68 => ⟨S_, .f32⟩
  | 69 => ⟨S100, .f32⟩
  | 70 => ⟨S_, .f32⟩
  | 71 => ⟨S100, .f32⟩
  | 72 => ⟨S100, .f32⟩
  | 73 => ⟨S100, .f32⟩
  | 74 => ⟨S100, .f32⟩
  | 75 => ⟨S_, .f32⟩
  | 76 => ⟨S100, .f32⟩
  | 77 => ⟨S100, .i1⟩
  | 78 => ⟨S100, .f32⟩
  | 79 => ⟨S100, .f32⟩
  | 80 => ⟨S100, .f32⟩
  | 81 => ⟨S_, .f32⟩
  | 82 => ⟨S_, .f32⟩
  | 83 => ⟨S100, .f32⟩
  | 84 => ⟨S100, .f32⟩
  | 85 => ⟨S100, .f32⟩
  | 86 => ⟨S1, .f32⟩
  | 87 => ⟨S_, .f32⟩
  | 88 => ⟨S200000x100, .f32⟩
  | 89 => ⟨S200000x100, .i1⟩
  | 90 => ⟨S1, .f32⟩
  | 91 => ⟨S_, .f32⟩
  | 92 => ⟨S200000x100, .f32⟩
  | 93 => ⟨S200000x100, .i1⟩
  | 94 => ⟨S200000x100, .i1⟩
  | 95 => ⟨S200000x100, .f32⟩
  | 96 => ⟨S_, .f32⟩
  | 97 => ⟨S100, .f32⟩
  | 98 => ⟨S_, .f32⟩
  | 99 => ⟨S100, .f32⟩
  | 100 => ⟨S100, .f32⟩
  | 101 => ⟨S200000x100, .f32⟩
  | 102 => ⟨S_, .f32⟩
  | 103 => ⟨S100, .f32⟩
  | 104 => ⟨S200000x100, .f32⟩
  | 105 => ⟨S_, .f32⟩
  | 106 => ⟨S100, .f32⟩
  | 107 => ⟨S_, .f32⟩
  | 108 => ⟨S100, .f32⟩
  | 109 => ⟨S100, .f32⟩
  | 110 => ⟨S100, .f32⟩
  | 111 => ⟨S100, .f32⟩
  | 112 => ⟨S_, .f32⟩
  | 113 => ⟨S100, .f32⟩
  | 114 => ⟨S100, .i1⟩
  | 115 => ⟨S100, .f32⟩
  | 116 => ⟨S100, .f32⟩
  | 117 => ⟨S100, .f32⟩
  | 118 => ⟨S_, .f32⟩
  | 119 => ⟨S_, .f32⟩
  | 120 => ⟨S100, .f32⟩
  | 121 => ⟨S100, .f32⟩
  | 122 => ⟨S100, .f32⟩
  | 123 => ⟨S1, .f32⟩
  | 124 => ⟨S_, .f32⟩
  | 125 => ⟨S200000x100, .f32⟩
  | 126 => ⟨S200000x100, .i1⟩
  | 127 => ⟨S1, .f32⟩
  | _ => ⟨S200000x100, .f32⟩

abbrev hbmTy0_1 (i : Nat) : BufTy := match i % 128 with
  | 0 => ⟨S_, .f32⟩
  | 1 => ⟨S200000x100, .f32⟩
  | 2 => ⟨S200000x100, .i1⟩
  | 3 => ⟨S200000x100, .i1⟩
  | 4 => ⟨S200000x100, .f32⟩
  | 5 => ⟨S_, .f32⟩
  | 6 => ⟨S100, .f32⟩
  | 7 => ⟨S_, .f32⟩
  | 8 => ⟨S100, .f32⟩
  | 9 => ⟨S100, .f32⟩
  | 10 => ⟨S200000x100, .f32⟩
  | 11 => ⟨S_, .f32⟩
  | 12 => ⟨S100, .f32⟩
  | 13 => ⟨S200000x100, .f32⟩
  | 14 => ⟨S_, .f32⟩
  | 15 => ⟨S100, .f32⟩
  | 16 => ⟨S_, .f32⟩
  | 17 => ⟨S100, .f32⟩
  | 18 => ⟨S100, .f32⟩
  | 19 => ⟨S100, .f32⟩
  | 20 => ⟨S100, .f32⟩
  | 21 => ⟨S_, .f32⟩
  | 22 => ⟨S100, .f32⟩
  | 23 => ⟨S100, .i1⟩
  | 24 => ⟨S100, .f32⟩
  | 25 => ⟨S100, .f32⟩
  | 26 => ⟨S100, .f32⟩
  | 27 => ⟨S_, .f32⟩
  | 28 => ⟨S_, .f32⟩
  | 29 => ⟨S100, .f32⟩
  | 30 => ⟨S100, .f32⟩
  | 31 => ⟨S100, .f32⟩
  | 32 => ⟨S1, .f32⟩
  | 33 => ⟨S_, .f32⟩
  | 34 => ⟨S200000x100, .f32⟩
  | 35 => ⟨S200000x100, .i1⟩
  | 36 => ⟨S1, .f32⟩
  | 37 => ⟨S_, .f32⟩
  | 38 => ⟨S200000x100, .f32⟩
  | 39 => ⟨S200000x100, .i1⟩
  | 40 => ⟨S200000x100, .i1⟩
  | 41 => ⟨S200000x100, .f32⟩
  | 42 => ⟨S_, .f32⟩
  | 43 => ⟨S100, .f32⟩
  | 44 => ⟨S_, .f32⟩
  | 45 => ⟨S100, .f32⟩
  | 46 => ⟨S100, .f32⟩
  | 47 => ⟨S200000x100, .f32⟩
  | 48 => ⟨S_, .f32⟩
  | 49 => ⟨S100, .f32⟩
  | 50 => ⟨S200000x100, .f32⟩
  | 51 => ⟨S_, .f32⟩
  | 52 => ⟨S100, .f32⟩
  | 53 => ⟨S_, .f32⟩
  | 54 => ⟨S100, .f32⟩
  | 55 => ⟨S100, .f32⟩
  | 56 => ⟨S100, .f32⟩
  | 57 => ⟨S100, .f32⟩
  | 58 => ⟨S_, .f32⟩
  | 59 => ⟨S100, .f32⟩
  | 60 => ⟨S100, .i1⟩
  | 61 => ⟨S100, .f32⟩
  | 62 => ⟨S100, .f32⟩
  | 63 => ⟨S100, .f32⟩
  | 64 => ⟨S_, .f32⟩
  | 65 => ⟨S_, .f32⟩
  | 66 => ⟨S100, .f32⟩
  | 67 => ⟨S100, .f32⟩
  | 68 => ⟨S100, .f32⟩
  | 69 => ⟨S1, .f32⟩
  | 70 => ⟨S_, .f32⟩
  | 71 => ⟨S200000x100, .f32⟩
  | 72 => ⟨S200000x100, .i1⟩
  | 73 => ⟨S1, .f32⟩
  | 74 => ⟨S_, .f32⟩
  | 75 => ⟨S200000x100, .f32⟩
  | 76 => ⟨S200000x100, .i1⟩
  | 77 => ⟨S200000x100, .i1⟩
  | 78 => ⟨S200000x100, .f32⟩
  | 79 => ⟨S_, .f32⟩
  | 80 => ⟨S100, .f32⟩
  | 81 => ⟨S_, .f32⟩
  | 82 => ⟨S100, .f32⟩
  | 83 => ⟨S100, .f32⟩
  | 84 => ⟨S200000x100, .f32⟩
  | 85 => ⟨S_, .f32⟩
  | 86 => ⟨S100, .f32⟩
  | 87 => ⟨S200000x100, .f32⟩
  | 88 => ⟨S_, .f32⟩
  | 89 => ⟨S100, .f32⟩
  | 90 => ⟨S_, .f32⟩
  | 91 => ⟨S100, .f32⟩
  | 92 => ⟨S100, .f32⟩
  | 93 => ⟨S100, .f32⟩
  | 94 => ⟨S100, .f32⟩
  | 95 => ⟨S_, .f32⟩
  | 96 => ⟨S100, .f32⟩
  | 97 => ⟨S100, .i1⟩
  | 98 => ⟨S100, .f32⟩
  | 99 => ⟨S100, .f32⟩
  | 100 => ⟨S100, .f32⟩
  | 101 => ⟨S_, .f32⟩
  | 102 => ⟨S_, .f32⟩
  | 103 => ⟨S100, .f32⟩
  | 104 => ⟨S100, .f32⟩
  | 105 => ⟨S100, .f32⟩
  | 106 => ⟨S1, .f32⟩
  | 107 => ⟨S_, .f32⟩
  | 108 => ⟨S200000x100, .f32⟩
  | 109 => ⟨S200000x100, .i1⟩
  | 110 => ⟨S1, .f32⟩
  | 111 => ⟨S_, .f32⟩
  | 112 => ⟨S200000x100, .f32⟩
  | 113 => ⟨S200000x100, .i1⟩
  | 114 => ⟨S200000x100, .i1⟩
  | 115 => ⟨S200000x100, .f32⟩
  | 116 => ⟨S_, .f32⟩
  | 117 => ⟨S100, .f32⟩
  | 118 => ⟨S_, .f32⟩
  | 119 => ⟨S100, .f32⟩
  | 120 => ⟨S100, .f32⟩
  | 121 => ⟨S200000x100, .f32⟩
  | 122 => ⟨S_, .f32⟩
  | 123 => ⟨S100, .f32⟩
  | 124 => ⟨S200000x100, .f32⟩
  | 125 => ⟨S_, .f32⟩
  | 126 => ⟨S100, .f32⟩
  | 127 => ⟨S_, .f32⟩
  | _ => ⟨S200000x100, .f32⟩

abbrev hbmTy0_2 (i : Nat) : BufTy := match i % 128 with
  | 0 => ⟨S100, .f32⟩
  | 1 => ⟨S100, .f32⟩
  | 2 => ⟨S100, .f32⟩
  | 3 => ⟨S100, .f32⟩
  | 4 => ⟨S_, .f32⟩
  | 5 => ⟨S100, .f32⟩
  | 6 => ⟨S100, .i1⟩
  | 7 => ⟨S100, .f32⟩
  | 8 => ⟨S100, .f32⟩
  | 9 => ⟨S100, .f32⟩
  | 10 => ⟨S_, .f32⟩
  | 11 => ⟨S_, .f32⟩
  | 12 => ⟨S100, .f32⟩
  | 13 => ⟨S100, .f32⟩
  | 14 => ⟨S100, .f32⟩
  | 15 => ⟨S1, .f32⟩
  | 16 => ⟨S_, .f32⟩
  | 17 => ⟨S200000x100, .f32⟩
  | 18 => ⟨S200000x100, .i1⟩
  | 19 => ⟨S1, .f32⟩
  | 20 => ⟨S_, .f32⟩
  | 21 => ⟨S200000x100, .f32⟩
  | 22 => ⟨S200000x100, .i1⟩
  | 23 => ⟨S200000x100, .i1⟩
  | 24 => ⟨S200000x100, .f32⟩
  | 25 => ⟨S_, .f32⟩
  | 26 => ⟨S100, .f32⟩
  | 27 => ⟨S_, .f32⟩
  | 28 => ⟨S100, .f32⟩
  | 29 => ⟨S100, .f32⟩
  | 30 => ⟨S200000x100, .f32⟩
  | 31 => ⟨S_, .f32⟩
  | 32 => ⟨S100, .f32⟩
  | 33 => ⟨S200000x100, .f32⟩
  | 34 => ⟨S_, .f32⟩
  | 35 => ⟨S100, .f32⟩
  | 36 => ⟨S_, .f32⟩
  | 37 => ⟨S100, .f32⟩
  | 38 => ⟨S100, .f32⟩
  | 39 => ⟨S100, .f32⟩
  | 40 => ⟨S100, .f32⟩
  | 41 => ⟨S_, .f32⟩
  | 42 => ⟨S100, .f32⟩
  | 43 => ⟨S100, .i1⟩
  | 44 => ⟨S100, .f32⟩
  | 45 => ⟨S100, .f32⟩
  | 46 => ⟨S100, .f32⟩
  | 47 => ⟨S_, .f32⟩
  | 48 => ⟨S_, .f32⟩
  | 49 => ⟨S100, .f32⟩
  | 50 => ⟨S100, .f32⟩
  | 51 => ⟨S100, .f32⟩
  | 52 => ⟨S1, .f32⟩
  | 53 => ⟨S_, .f32⟩
  | 54 => ⟨S200000x100, .f32⟩
  | 55 => ⟨S200000x100, .i1⟩
  | 56 => ⟨S1, .f32⟩
  | 57 => ⟨S_, .f32⟩
  | 58 => ⟨S200000x100, .f32⟩
  | 59 => ⟨S200000x100, .i1⟩
  | 60 => ⟨S200000x100, .i1⟩
  | 61 => ⟨S200000x100, .f32⟩
  | 62 => ⟨S_, .f32⟩
  | 63 => ⟨S100, .f32⟩
  | 64 => ⟨S_, .f32⟩
  | 65 => ⟨S100, .f32⟩
  | 66 => ⟨S100, .f32⟩
  | 67 => ⟨S200000x100, .f32⟩
  | 68 => ⟨S_, .f32⟩
  | 69 => ⟨S100, .f32⟩
  | 70 => ⟨S200000x100, .f32⟩
  | 71 => ⟨S_, .f32⟩
  | 72 => ⟨S100, .f32⟩
  | 73 => ⟨S_, .f32⟩
  | 74 => ⟨S100, .f32⟩
  | 75 => ⟨S100, .f32⟩
  | 76 => ⟨S100, .f32⟩
  | 77 => ⟨S100, .f32⟩
  | 78 => ⟨S_, .f32⟩
  | 79 => ⟨S100, .f32⟩
  | 80 => ⟨S100, .i1⟩
  | 81 => ⟨S100, .f32⟩
  | 82 => ⟨S100, .f32⟩
  | 83 => ⟨S100, .f32⟩
  | 84 => ⟨S_, .f32⟩
  | 85 => ⟨S_, .f32⟩
  | 86 => ⟨S100, .f32⟩
  | 87 => ⟨S100, .f32⟩
  | 88 => ⟨S100, .f32⟩
  | 89 => ⟨S1, .f32⟩
  | 90 => ⟨S_, .f32⟩
  | 91 => ⟨S200000x100, .f32⟩
  | 92 => ⟨S200000x100, .i1⟩
  | 93 => ⟨S1, .f32⟩
  | 94 => ⟨S_, .f32⟩
  | 95 => ⟨S200000x100, .f32⟩
  | 96 => ⟨S200000x100, .i1⟩
  | 97 => ⟨S200000x100, .i1⟩
  | 98 => ⟨S200000x100, .f32⟩
  | 99 => ⟨S_, .f32⟩
  | 100 => ⟨S100, .f32⟩
  | 101 => ⟨S_, .f32⟩
  | 102 => ⟨S100, .f32⟩
  | 103 => ⟨S100, .f32⟩
  | 104 => ⟨S200000x100, .f32⟩
  | 105 => ⟨S_, .f32⟩
  | 106 => ⟨S100, .f32⟩
  | 107 => ⟨S200000x100, .f32⟩
  | 108 => ⟨S_, .f32⟩
  | 109 => ⟨S100, .f32⟩
  | 110 => ⟨S_, .f32⟩
  | 111 => ⟨S100, .f32⟩
  | 112 => ⟨S100, .f32⟩
  | 113 => ⟨S100, .f32⟩
  | 114 => ⟨S100, .f32⟩
  | 115 => ⟨S_, .f32⟩
  | 116 => ⟨S100, .f32⟩
  | 117 => ⟨S100, .i1⟩
  | 118 => ⟨S100, .f32⟩
  | 119 => ⟨S100, .f32⟩
  | 120 => ⟨S100, .f32⟩
  | 121 => ⟨S_, .f32⟩
  | 122 => ⟨S_, .f32⟩
  | 123 => ⟨S100, .f32⟩
  | 124 => ⟨S100, .f32⟩
  | 125 => ⟨S100, .f32⟩
  | 126 => ⟨S1, .f32⟩
  | 127 => ⟨S_, .f32⟩
  | _ => ⟨S200000x100, .f32⟩

abbrev hbmTy0_3 (i : Nat) : BufTy := match i % 128 with
  | 0 => ⟨S200000x100, .f32⟩
  | 1 => ⟨S200000x100, .i1⟩
  | 2 => ⟨S1, .f32⟩
  | 3 => ⟨S_, .f32⟩
  | 4 => ⟨S200000x100, .f32⟩
  | 5 => ⟨S200000x100, .i1⟩
  | 6 => ⟨S200000x100, .i1⟩
  | 7 => ⟨S200000x100, .f32⟩
  | 8 => ⟨S_, .f32⟩
  | 9 => ⟨S100, .f32⟩
  | 10 => ⟨S_, .f32⟩
  | 11 => ⟨S100, .f32⟩
  | 12 => ⟨S100, .f32⟩
  | 13 => ⟨S200000x100, .f32⟩
  | 14 => ⟨S_, .f32⟩
  | 15 => ⟨S100, .f32⟩
  | 16 => ⟨S200000x100, .f32⟩
  | 17 => ⟨S_, .f32⟩
  | 18 => ⟨S100, .f32⟩
  | 19 => ⟨S_, .f32⟩
  | 20 => ⟨S100, .f32⟩
  | 21 => ⟨S100, .f32⟩
  | 22 => ⟨S100, .f32⟩
  | 23 => ⟨S100, .f32⟩
  | 24 => ⟨S_, .f32⟩
  | 25 => ⟨S100, .f32⟩
  | 26 => ⟨S100, .i1⟩
  | 27 => ⟨S100, .f32⟩
  | 28 => ⟨S100, .f32⟩
  | 29 => ⟨S100, .f32⟩
  | 30 => ⟨S_, .f32⟩
  | 31 => ⟨S_, .f32⟩
  | 32 => ⟨S100, .f32⟩
  | 33 => ⟨S100, .f32⟩
  | 34 => ⟨S100, .f32⟩
  | 35 => ⟨S1, .f32⟩
  | 36 => ⟨S_, .f32⟩
  | 37 => ⟨S200000x100, .f32⟩
  | 38 => ⟨S200000x100, .i1⟩
  | 39 => ⟨S1, .f32⟩
  | 40 => ⟨S_, .f32⟩
  | 41 => ⟨S200000x100, .f32⟩
  | 42 => ⟨S200000x100, .i1⟩
  | 43 => ⟨S200000x100, .i1⟩
  | 44 => ⟨S200000x100, .f32⟩
  | 45 => ⟨S_, .f32⟩
  | 46 => ⟨S100, .f32⟩
  | 47 => ⟨S_, .f32⟩
  | 48 => ⟨S100, .f32⟩
  | 49 => ⟨S100, .f32⟩
  | 50 => ⟨S200000x100, .f32⟩
  | 51 => ⟨S_, .f32⟩
  | 52 => ⟨S100, .f32⟩
  | 53 => ⟨S200000x100, .f32⟩
  | 54 => ⟨S_, .f32⟩
  | 55 => ⟨S100, .f32⟩
  | 56 => ⟨S_, .f32⟩
  | 57 => ⟨S100, .f32⟩
  | 58 => ⟨S100, .f32⟩
  | 59 => ⟨S100, .f32⟩
  | 60 => ⟨S100, .f32⟩
  | 61 => ⟨S_, .f32⟩
  | 62 => ⟨S100, .f32⟩
  | 63 => ⟨S100, .i1⟩
  | 64 => ⟨S100, .f32⟩
  | 65 => ⟨S100, .f32⟩
  | 66 => ⟨S100, .f32⟩
  | 67 => ⟨S_, .f32⟩
  | 68 => ⟨S_, .f32⟩
  | 69 => ⟨S100, .f32⟩
  | 70 => ⟨S100, .f32⟩
  | 71 => ⟨S100, .f32⟩
  | 72 => ⟨S1, .f32⟩
  | 73 => ⟨S_, .f32⟩
  | 74 => ⟨S200000x100, .f32⟩
  | 75 => ⟨S200000x100, .i1⟩
  | 76 => ⟨S1, .f32⟩
  | 77 => ⟨S_, .f32⟩
  | 78 => ⟨S200000x100, .f32⟩
  | 79 => ⟨S200000x100, .i1⟩
  | 80 => ⟨S200000x100, .i1⟩
  | 81 => ⟨S200000x100, .f32⟩
  | 82 => ⟨S_, .f32⟩
  | 83 => ⟨S100, .f32⟩
  | 84 => ⟨S_, .f32⟩
  | 85 => ⟨S100, .f32⟩
  | 86 => ⟨S100, .f32⟩
  | 87 => ⟨S200000x100, .f32⟩
  | 88 => ⟨S_, .f32⟩
  | 89 => ⟨S100, .f32⟩
  | 90 => ⟨S200000x100, .f32⟩
  | 91 => ⟨S_, .f32⟩
  | 92 => ⟨S100, .f32⟩
  | 93 => ⟨S_, .f32⟩
  | 94 => ⟨S100, .f32⟩
  | 95 => ⟨S100, .f32⟩
  | 96 => ⟨S100, .f32⟩
  | 97 => ⟨S100, .f32⟩
  | 98 => ⟨S_, .f32⟩
  | 99 => ⟨S100, .f32⟩
  | 100 => ⟨S100, .i1⟩
  | 101 => ⟨S100, .f32⟩
  | 102 => ⟨S100, .f32⟩
  | 103 => ⟨S100, .f32⟩
  | 104 => ⟨S_, .f32⟩
  | 105 => ⟨S_, .f32⟩
  | 106 => ⟨S100, .f32⟩
  | 107 => ⟨S100, .f32⟩
  | 108 => ⟨S100, .f32⟩
  | 109 => ⟨S1, .f32⟩
  | 110 => ⟨S_, .f32⟩
  | 111 => ⟨S200000x100, .f32⟩
  | 112 => ⟨S200000x100, .i1⟩
  | 113 => ⟨S1, .f32⟩
  | 114 => ⟨S_, .f32⟩
  | 115 => ⟨S200000x100, .f32⟩
  | 116 => ⟨S200000x100, .i1⟩
  | 117 => ⟨S200000x100, .i1⟩
  | 118 => ⟨S200000x100, .f32⟩
  | 119 => ⟨S_, .f32⟩
  | 120 => ⟨S100, .f32⟩
  | 121 => ⟨S_, .f32⟩
  | 122 => ⟨S100, .f32⟩
  | 123 => ⟨S100, .f32⟩
  | 124 => ⟨S200000x100, .f32⟩
  | 125 => ⟨S_, .f32⟩
  | 126 => ⟨S100, .f32⟩
  | 127 => ⟨S200000x100, .f32⟩
  | _ => ⟨S200000x100, .f32⟩

abbrev hbmTy0_4 (i : Nat) : BufTy := match i % 128 with
  | 0 => ⟨S_, .f32⟩
  | 1 => ⟨S100, .f32⟩
  | 2 => ⟨S_, .f32⟩
  | 3 => ⟨S100, .f32⟩
  | 4 => ⟨S100, .f32⟩
  | 5 => ⟨S100, .f32⟩
  | 6 => ⟨S100, .f32⟩
  | 7 => ⟨S_, .f32⟩
  | 8 => ⟨S100, .f32⟩
  | 9 => ⟨S100, .i1⟩
  | 10 => ⟨S100, .f32⟩
  | 11 => ⟨S100, .f32⟩
  | 12 => ⟨S100, .f32⟩
  | 13 => ⟨S_, .f32⟩
  | 14 => ⟨S_, .f32⟩
  | 15 => ⟨S100, .f32⟩
  | 16 => ⟨S100, .f32⟩
  | 17 => ⟨S100, .f32⟩
  | 18 => ⟨S1, .f32⟩
  | 19 => ⟨S_, .f32⟩
  | 20 => ⟨S200000x100, .f32⟩
  | 21 => ⟨S200000x100, .i1⟩
  | 22 => ⟨S1, .f32⟩
  | 23 => ⟨S_, .f32⟩
  | 24 => ⟨S200000x100, .f32⟩
  | 25 => ⟨S200000x100, .i1⟩
  | 26 => ⟨S200000x100, .i1⟩
  | 27 => ⟨S200000x100, .f32⟩
  | 28 => ⟨S_, .f32⟩
  | 29 => ⟨S100, .f32⟩
  | 30 => ⟨S_, .f32⟩
  | 31 => ⟨S100, .f32⟩
  | 32 => ⟨S100, .f32⟩
  | 33 => ⟨S200000x100, .f32⟩
  | 34 => ⟨S_, .f32⟩
  | 35 => ⟨S100, .f32⟩
  | 36 => ⟨S200000x100, .f32⟩
  | 37 => ⟨S_, .f32⟩
  | 38 => ⟨S100, .f32⟩
  | 39 => ⟨S_, .f32⟩
  | 40 => ⟨S100, .f32⟩
  | 41 => ⟨S100, .f32⟩
  | 42 => ⟨S100, .f32⟩
  | 43 => ⟨S100, .f32⟩
  | 44 => ⟨S_, .f32⟩
  | 45 => ⟨S100, .f32⟩
  | 46 => ⟨S100, .i1⟩
  | 47 => ⟨S100, .f32⟩
  | 48 => ⟨S100, .f32⟩
  | 49 => ⟨S100, .f32⟩
  | 50 => ⟨S_, .f32⟩
  | 51 => ⟨S_, .f32⟩
  | 52 => ⟨S100, .f32⟩
  | 53 => ⟨S100, .f32⟩
  | 54 => ⟨S100, .f32⟩
  | 55 => ⟨S1, .f32⟩
  | 56 => ⟨S_, .f32⟩
  | 57 => ⟨S200000x100, .f32⟩
  | 58 => ⟨S200000x100, .i1⟩
  | 59 => ⟨S1, .f32⟩
  | 60 => ⟨S_, .f32⟩
  | 61 => ⟨S200000x100, .f32⟩
  | 62 => ⟨S200000x100, .i1⟩
  | 63 => ⟨S200000x100, .i1⟩
  | 64 => ⟨S200000x100, .f32⟩
  | 65 => ⟨S_, .f32⟩
  | 66 => ⟨S100, .f32⟩
  | 67 => ⟨S_, .f32⟩
  | 68 => ⟨S100, .f32⟩
  | 69 => ⟨S100, .f32⟩
  | 70 => ⟨S200000x100, .f32⟩
  | 71 => ⟨S_, .f32⟩
  | 72 => ⟨S100, .f32⟩
  | 73 => ⟨S200000x100, .f32⟩
  | 74 => ⟨S_, .f32⟩
  | 75 => ⟨S100, .f32⟩
  | 76 => ⟨S_, .f32⟩
  | 77 => ⟨S100, .f32⟩
  | 78 => ⟨S100, .f32⟩
  | 79 => ⟨S100, .f32⟩
  | 80 => ⟨S100, .f32⟩
  | 81 => ⟨S_, .f32⟩
  | 82 => ⟨S100, .f32⟩
  | 83 => ⟨S100, .i1⟩
  | 84 => ⟨S100, .f32⟩
  | 85 => ⟨S100, .f32⟩
  | 86 => ⟨S100, .f32⟩
  | 87 => ⟨S_, .f32⟩
  | 88 => ⟨S_, .f32⟩
  | 89 => ⟨S100, .f32⟩
  | 90 => ⟨S100, .f32⟩
  | 91 => ⟨S100, .f32⟩
  | 92 => ⟨S_, .f32⟩
  | 93 => ⟨S_, .f32⟩
  | 94 => ⟨S_, .f32⟩
  | 95 => ⟨S_, .f32⟩
  | _ => ⟨S200000x100, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S200000x100, .f32⟩

abbrev bufTy : (tb : Table) → Fin (tcTables nBuf tb) → BufTy
  | .hbm, ⟨i, _⟩ => hbmTy i
  | _, _ => ⟨S200000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_cst_1 : Ref sig .tc := ⟨.hbm, 27, rfl⟩
abbrev main_v3 : Ref sig .tc := ⟨.hbm, 28, rfl⟩
abbrev main_cst_2 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst_3 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v14 : Ref sig .tc := ⟨.hbm, 46, rfl⟩
abbrev main_cst_4 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_cst_5 : Ref sig .tc := ⟨.hbm, 59, rfl⟩
abbrev main_v26 : Ref sig .tc := ⟨.hbm, 60, rfl⟩
abbrev main_cst_6 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_cst_7 : Ref sig .tc := ⟨.hbm, 65, rfl⟩
abbrev main_v30 : Ref sig .tc := ⟨.hbm, 66, rfl⟩
abbrev main_v31 : Ref sig .tc := ⟨.hbm, 67, rfl⟩
abbrev main_cst_8 : Ref sig .tc := ⟨.hbm, 68, rfl⟩
abbrev main_v32 : Ref sig .tc := ⟨.hbm, 69, rfl⟩
abbrev main_cst_9 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_10 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_cst_11 : Ref sig .tc := ⟨.hbm, 81, rfl⟩
abbrev main_call2_v0 : Ref sig .tc := ⟨.hbm, 82, rfl⟩
abbrev main_call2_v1 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_cst_12 : Ref sig .tc := ⟨.hbm, 96, rfl⟩
abbrev main_v54 : Ref sig .tc := ⟨.hbm, 97, rfl⟩
abbrev main_cst_13 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_14 : Ref sig .tc := ⟨.hbm, 102, rfl⟩
abbrev main_v58 : Ref sig .tc := ⟨.hbm, 103, rfl⟩
abbrev main_v59 : Ref sig .tc := ⟨.hbm, 104, rfl⟩
abbrev main_cst_15 : Ref sig .tc := ⟨.hbm, 105, rfl⟩
abbrev main_v60 : Ref sig .tc := ⟨.hbm, 106, rfl⟩
abbrev main_cst_16 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_cst_17 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_cst_18 : Ref sig .tc := ⟨.hbm, 118, rfl⟩
abbrev main_call3_v0 : Ref sig .tc := ⟨.hbm, 119, rfl⟩
abbrev main_call3_v1 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_cst_19 : Ref sig .tc := ⟨.hbm, 133, rfl⟩
abbrev main_v82 : Ref sig .tc := ⟨.hbm, 134, rfl⟩
abbrev main_cst_20 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_cst_21 : Ref sig .tc := ⟨.hbm, 139, rfl⟩
abbrev main_v86 : Ref sig .tc := ⟨.hbm, 140, rfl⟩
abbrev main_v87 : Ref sig .tc := ⟨.hbm, 141, rfl⟩
abbrev main_cst_22 : Ref sig .tc := ⟨.hbm, 142, rfl⟩
abbrev main_v88 : Ref sig .tc := ⟨.hbm, 143, rfl⟩
abbrev main_cst_23 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_cst_24 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_cst_25 : Ref sig .tc := ⟨.hbm, 155, rfl⟩
abbrev main_call4_v0 : Ref sig .tc := ⟨.hbm, 156, rfl⟩
abbrev main_call4_v1 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_cst_26 : Ref sig .tc := ⟨.hbm, 170, rfl⟩
abbrev main_v110 : Ref sig .tc := ⟨.hbm, 171, rfl⟩
abbrev main_cst_27 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_cst_28 : Ref sig .tc := ⟨.hbm, 176, rfl⟩
abbrev main_v114 : Ref sig .tc := ⟨.hbm, 177, rfl⟩
abbrev main_v115 : Ref sig .tc := ⟨.hbm, 178, rfl⟩
abbrev main_cst_29 : Ref sig .tc := ⟨.hbm, 179, rfl⟩
abbrev main_v116 : Ref sig .tc := ⟨.hbm, 180, rfl⟩
abbrev main_cst_30 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_cst_31 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_cst_32 : Ref sig .tc := ⟨.hbm, 192, rfl⟩
abbrev main_call5_v0 : Ref sig .tc := ⟨.hbm, 193, rfl⟩
abbrev main_call5_v1 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_cst_33 : Ref sig .tc := ⟨.hbm, 207, rfl⟩
abbrev main_v138 : Ref sig .tc := ⟨.hbm, 208, rfl⟩
abbrev main_cst_34 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_cst_35 : Ref sig .tc := ⟨.hbm, 213, rfl⟩
abbrev main_v142 : Ref sig .tc := ⟨.hbm, 214, rfl⟩
abbrev main_v143 : Ref sig .tc := ⟨.hbm, 215, rfl⟩
abbrev main_cst_36 : Ref sig .tc := ⟨.hbm, 216, rfl⟩
abbrev main_v144 : Ref sig .tc := ⟨.hbm, 217, rfl⟩
abbrev main_cst_37 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_cst_38 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩
abbrev main_cst_39 : Ref sig .tc := ⟨.hbm, 229, rfl⟩
abbrev main_call6_v0 : Ref sig .tc := ⟨.hbm, 230, rfl⟩
abbrev main_call6_v1 : Ref sig .tc := ⟨.hbm, 231, rfl⟩
abbrev main_v154 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩
abbrev main_cst_40 : Ref sig .tc := ⟨.hbm, 244, rfl⟩
abbrev main_v166 : Ref sig .tc := ⟨.hbm, 245, rfl⟩
abbrev main_cst_41 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_cst_42 : Ref sig .tc := ⟨.hbm, 250, rfl⟩
abbrev main_v170 : Ref sig .tc := ⟨.hbm, 251, rfl⟩
abbrev main_v171 : Ref sig .tc := ⟨.hbm, 252, rfl⟩
abbrev main_cst_43 : Ref sig .tc := ⟨.hbm, 253, rfl⟩
abbrev main_v172 : Ref sig .tc := ⟨.hbm, 254, rfl⟩
abbrev main_cst_44 : Ref sig .tc := ⟨.hbm, 255, rfl⟩
abbrev main_v173 : Ref sig .tc := ⟨.hbm, 256, rfl⟩
abbrev main_v174 : Ref sig .tc := ⟨.hbm, 257, rfl⟩
abbrev main_v175 : Ref sig .tc := ⟨.hbm, 258, rfl⟩
abbrev main_v176 : Ref sig .tc := ⟨.hbm, 259, rfl⟩
abbrev main_cst_45 : Ref sig .tc := ⟨.hbm, 260, rfl⟩
abbrev main_v177 : Ref sig .tc := ⟨.hbm, 261, rfl⟩
abbrev main_v178 : Ref sig .tc := ⟨.hbm, 262, rfl⟩
abbrev main_v179 : Ref sig .tc := ⟨.hbm, 263, rfl⟩
abbrev main_v180 : Ref sig .tc := ⟨.hbm, 264, rfl⟩
abbrev main_v181 : Ref sig .tc := ⟨.hbm, 265, rfl⟩
abbrev main_cst_46 : Ref sig .tc := ⟨.hbm, 266, rfl⟩
abbrev main_call7_v0 : Ref sig .tc := ⟨.hbm, 267, rfl⟩
abbrev main_call7_v1 : Ref sig .tc := ⟨.hbm, 268, rfl⟩
abbrev main_v182 : Ref sig .tc := ⟨.hbm, 269, rfl⟩
abbrev main_v183 : Ref sig .tc := ⟨.hbm, 270, rfl⟩
abbrev main_v184 : Ref sig .tc := ⟨.hbm, 271, rfl⟩
abbrev main_v185 : Ref sig .tc := ⟨.hbm, 272, rfl⟩
abbrev main_v186 : Ref sig .tc := ⟨.hbm, 273, rfl⟩
abbrev main_v187 : Ref sig .tc := ⟨.hbm, 274, rfl⟩
abbrev main_v188 : Ref sig .tc := ⟨.hbm, 275, rfl⟩
abbrev main_v189 : Ref sig .tc := ⟨.hbm, 276, rfl⟩
abbrev main_v190 : Ref sig .tc := ⟨.hbm, 277, rfl⟩
abbrev main_v191 : Ref sig .tc := ⟨.hbm, 278, rfl⟩
abbrev main_v192 : Ref sig .tc := ⟨.hbm, 279, rfl⟩
abbrev main_v193 : Ref sig .tc := ⟨.hbm, 280, rfl⟩
abbrev main_cst_47 : Ref sig .tc := ⟨.hbm, 281, rfl⟩
abbrev main_v194 : Ref sig .tc := ⟨.hbm, 282, rfl⟩
abbrev main_cst_48 : Ref sig .tc := ⟨.hbm, 283, rfl⟩
abbrev main_v195 : Ref sig .tc := ⟨.hbm, 284, rfl⟩
abbrev main_v196 : Ref sig .tc := ⟨.hbm, 285, rfl⟩
abbrev main_v197 : Ref sig .tc := ⟨.hbm, 286, rfl⟩
abbrev main_cst_49 : Ref sig .tc := ⟨.hbm, 287, rfl⟩
abbrev main_v198 : Ref sig .tc := ⟨.hbm, 288, rfl⟩
abbrev main_v199 : Ref sig .tc := ⟨.hbm, 289, rfl⟩
abbrev main_cst_50 : Ref sig .tc := ⟨.hbm, 290, rfl⟩
abbrev main_v200 : Ref sig .tc := ⟨.hbm, 291, rfl⟩
abbrev main_cst_51 : Ref sig .tc := ⟨.hbm, 292, rfl⟩
abbrev main_v201 : Ref sig .tc := ⟨.hbm, 293, rfl⟩
abbrev main_v202 : Ref sig .tc := ⟨.hbm, 294, rfl⟩
abbrev main_v203 : Ref sig .tc := ⟨.hbm, 295, rfl⟩
abbrev main_v204 : Ref sig .tc := ⟨.hbm, 296, rfl⟩
abbrev main_cst_52 : Ref sig .tc := ⟨.hbm, 297, rfl⟩
abbrev main_v205 : Ref sig .tc := ⟨.hbm, 298, rfl⟩
abbrev main_v206 : Ref sig .tc := ⟨.hbm, 299, rfl⟩
abbrev main_v207 : Ref sig .tc := ⟨.hbm, 300, rfl⟩
abbrev main_v208 : Ref sig .tc := ⟨.hbm, 301, rfl⟩
abbrev main_v209 : Ref sig .tc := ⟨.hbm, 302, rfl⟩
abbrev main_cst_53 : Ref sig .tc := ⟨.hbm, 303, rfl⟩
abbrev main_call8_v0 : Ref sig .tc := ⟨.hbm, 304, rfl⟩
abbrev main_call8_v1 : Ref sig .tc := ⟨.hbm, 305, rfl⟩
abbrev main_v210 : Ref sig .tc := ⟨.hbm, 306, rfl⟩
abbrev main_v211 : Ref sig .tc := ⟨.hbm, 307, rfl⟩
abbrev main_v212 : Ref sig .tc := ⟨.hbm, 308, rfl⟩
abbrev main_v213 : Ref sig .tc := ⟨.hbm, 309, rfl⟩
abbrev main_v214 : Ref sig .tc := ⟨.hbm, 310, rfl⟩
abbrev main_v215 : Ref sig .tc := ⟨.hbm, 311, rfl⟩
abbrev main_v216 : Ref sig .tc := ⟨.hbm, 312, rfl⟩
abbrev main_v217 : Ref sig .tc := ⟨.hbm, 313, rfl⟩
abbrev main_v218 : Ref sig .tc := ⟨.hbm, 314, rfl⟩
abbrev main_v219 : Ref sig .tc := ⟨.hbm, 315, rfl⟩
abbrev main_v220 : Ref sig .tc := ⟨.hbm, 316, rfl⟩
abbrev main_v221 : Ref sig .tc := ⟨.hbm, 317, rfl⟩
abbrev main_cst_54 : Ref sig .tc := ⟨.hbm, 318, rfl⟩
abbrev main_v222 : Ref sig .tc := ⟨.hbm, 319, rfl⟩
abbrev main_cst_55 : Ref sig .tc := ⟨.hbm, 320, rfl⟩
abbrev main_v223 : Ref sig .tc := ⟨.hbm, 321, rfl⟩
abbrev main_v224 : Ref sig .tc := ⟨.hbm, 322, rfl⟩
abbrev main_v225 : Ref sig .tc := ⟨.hbm, 323, rfl⟩
abbrev main_cst_56 : Ref sig .tc := ⟨.hbm, 324, rfl⟩
abbrev main_v226 : Ref sig .tc := ⟨.hbm, 325, rfl⟩
abbrev main_v227 : Ref sig .tc := ⟨.hbm, 326, rfl⟩
abbrev main_cst_57 : Ref sig .tc := ⟨.hbm, 327, rfl⟩
abbrev main_v228 : Ref sig .tc := ⟨.hbm, 328, rfl⟩
abbrev main_cst_58 : Ref sig .tc := ⟨.hbm, 329, rfl⟩
abbrev main_v229 : Ref sig .tc := ⟨.hbm, 330, rfl⟩
abbrev main_v230 : Ref sig .tc := ⟨.hbm, 331, rfl⟩
abbrev main_v231 : Ref sig .tc := ⟨.hbm, 332, rfl⟩
abbrev main_v232 : Ref sig .tc := ⟨.hbm, 333, rfl⟩
abbrev main_cst_59 : Ref sig .tc := ⟨.hbm, 334, rfl⟩
abbrev main_v233 : Ref sig .tc := ⟨.hbm, 335, rfl⟩
abbrev main_v234 : Ref sig .tc := ⟨.hbm, 336, rfl⟩
abbrev main_v235 : Ref sig .tc := ⟨.hbm, 337, rfl⟩
abbrev main_v236 : Ref sig .tc := ⟨.hbm, 338, rfl⟩
abbrev main_v237 : Ref sig .tc := ⟨.hbm, 339, rfl⟩
abbrev main_cst_60 : Ref sig .tc := ⟨.hbm, 340, rfl⟩
abbrev main_call9_v0 : Ref sig .tc := ⟨.hbm, 341, rfl⟩
abbrev main_call9_v1 : Ref sig .tc := ⟨.hbm, 342, rfl⟩
abbrev main_v238 : Ref sig .tc := ⟨.hbm, 343, rfl⟩
abbrev main_v239 : Ref sig .tc := ⟨.hbm, 344, rfl⟩
abbrev main_v240 : Ref sig .tc := ⟨.hbm, 345, rfl⟩
abbrev main_v241 : Ref sig .tc := ⟨.hbm, 346, rfl⟩
abbrev main_v242 : Ref sig .tc := ⟨.hbm, 347, rfl⟩
abbrev main_v243 : Ref sig .tc := ⟨.hbm, 348, rfl⟩
abbrev main_v244 : Ref sig .tc := ⟨.hbm, 349, rfl⟩
abbrev main_v245 : Ref sig .tc := ⟨.hbm, 350, rfl⟩
abbrev main_v246 : Ref sig .tc := ⟨.hbm, 351, rfl⟩
abbrev main_v247 : Ref sig .tc := ⟨.hbm, 352, rfl⟩
abbrev main_v248 : Ref sig .tc := ⟨.hbm, 353, rfl⟩
abbrev main_v249 : Ref sig .tc := ⟨.hbm, 354, rfl⟩
abbrev main_cst_61 : Ref sig .tc := ⟨.hbm, 355, rfl⟩
abbrev main_v250 : Ref sig .tc := ⟨.hbm, 356, rfl⟩
abbrev main_cst_62 : Ref sig .tc := ⟨.hbm, 357, rfl⟩
abbrev main_v251 : Ref sig .tc := ⟨.hbm, 358, rfl⟩
abbrev main_v252 : Ref sig .tc := ⟨.hbm, 359, rfl⟩
abbrev main_v253 : Ref sig .tc := ⟨.hbm, 360, rfl⟩
abbrev main_cst_63 : Ref sig .tc := ⟨.hbm, 361, rfl⟩
abbrev main_v254 : Ref sig .tc := ⟨.hbm, 362, rfl⟩
abbrev main_v255 : Ref sig .tc := ⟨.hbm, 363, rfl⟩
abbrev main_cst_64 : Ref sig .tc := ⟨.hbm, 364, rfl⟩
abbrev main_v256 : Ref sig .tc := ⟨.hbm, 365, rfl⟩
abbrev main_cst_65 : Ref sig .tc := ⟨.hbm, 366, rfl⟩
abbrev main_v257 : Ref sig .tc := ⟨.hbm, 367, rfl⟩
abbrev main_v258 : Ref sig .tc := ⟨.hbm, 368, rfl⟩
abbrev main_v259 : Ref sig .tc := ⟨.hbm, 369, rfl⟩
abbrev main_v260 : Ref sig .tc := ⟨.hbm, 370, rfl⟩
abbrev main_cst_66 : Ref sig .tc := ⟨.hbm, 371, rfl⟩
abbrev main_v261 : Ref sig .tc := ⟨.hbm, 372, rfl⟩
abbrev main_v262 : Ref sig .tc := ⟨.hbm, 373, rfl⟩
abbrev main_v263 : Ref sig .tc := ⟨.hbm, 374, rfl⟩
abbrev main_v264 : Ref sig .tc := ⟨.hbm, 375, rfl⟩
abbrev main_v265 : Ref sig .tc := ⟨.hbm, 376, rfl⟩
abbrev main_cst_67 : Ref sig .tc := ⟨.hbm, 377, rfl⟩
abbrev main_call10_v0 : Ref sig .tc := ⟨.hbm, 378, rfl⟩
abbrev main_call10_v1 : Ref sig .tc := ⟨.hbm, 379, rfl⟩
abbrev main_v266 : Ref sig .tc := ⟨.hbm, 380, rfl⟩
abbrev main_v267 : Ref sig .tc := ⟨.hbm, 381, rfl⟩
abbrev main_v268 : Ref sig .tc := ⟨.hbm, 382, rfl⟩
abbrev main_v269 : Ref sig .tc := ⟨.hbm, 383, rfl⟩
abbrev main_v270 : Ref sig .tc := ⟨.hbm, 384, rfl⟩
abbrev main_v271 : Ref sig .tc := ⟨.hbm, 385, rfl⟩
abbrev main_v272 : Ref sig .tc := ⟨.hbm, 386, rfl⟩
abbrev main_v273 : Ref sig .tc := ⟨.hbm, 387, rfl⟩
abbrev main_v274 : Ref sig .tc := ⟨.hbm, 388, rfl⟩
abbrev main_v275 : Ref sig .tc := ⟨.hbm, 389, rfl⟩
abbrev main_v276 : Ref sig .tc := ⟨.hbm, 390, rfl⟩
abbrev main_v277 : Ref sig .tc := ⟨.hbm, 391, rfl⟩
abbrev main_cst_68 : Ref sig .tc := ⟨.hbm, 392, rfl⟩
abbrev main_v278 : Ref sig .tc := ⟨.hbm, 393, rfl⟩
abbrev main_cst_69 : Ref sig .tc := ⟨.hbm, 394, rfl⟩
abbrev main_v279 : Ref sig .tc := ⟨.hbm, 395, rfl⟩
abbrev main_v280 : Ref sig .tc := ⟨.hbm, 396, rfl⟩
abbrev main_v281 : Ref sig .tc := ⟨.hbm, 397, rfl⟩
abbrev main_cst_70 : Ref sig .tc := ⟨.hbm, 398, rfl⟩
abbrev main_v282 : Ref sig .tc := ⟨.hbm, 399, rfl⟩
abbrev main_v283 : Ref sig .tc := ⟨.hbm, 400, rfl⟩
abbrev main_cst_71 : Ref sig .tc := ⟨.hbm, 401, rfl⟩
abbrev main_v284 : Ref sig .tc := ⟨.hbm, 402, rfl⟩
abbrev main_cst_72 : Ref sig .tc := ⟨.hbm, 403, rfl⟩
abbrev main_v285 : Ref sig .tc := ⟨.hbm, 404, rfl⟩
abbrev main_v286 : Ref sig .tc := ⟨.hbm, 405, rfl⟩
abbrev main_v287 : Ref sig .tc := ⟨.hbm, 406, rfl⟩
abbrev main_v288 : Ref sig .tc := ⟨.hbm, 407, rfl⟩
abbrev main_cst_73 : Ref sig .tc := ⟨.hbm, 408, rfl⟩
abbrev main_v289 : Ref sig .tc := ⟨.hbm, 409, rfl⟩
abbrev main_v290 : Ref sig .tc := ⟨.hbm, 410, rfl⟩
abbrev main_v291 : Ref sig .tc := ⟨.hbm, 411, rfl⟩
abbrev main_v292 : Ref sig .tc := ⟨.hbm, 412, rfl⟩
abbrev main_v293 : Ref sig .tc := ⟨.hbm, 413, rfl⟩
abbrev main_cst_74 : Ref sig .tc := ⟨.hbm, 414, rfl⟩
abbrev main_call11_v0 : Ref sig .tc := ⟨.hbm, 415, rfl⟩
abbrev main_call11_v1 : Ref sig .tc := ⟨.hbm, 416, rfl⟩
abbrev main_v294 : Ref sig .tc := ⟨.hbm, 417, rfl⟩
abbrev main_v295 : Ref sig .tc := ⟨.hbm, 418, rfl⟩
abbrev main_v296 : Ref sig .tc := ⟨.hbm, 419, rfl⟩
abbrev main_v297 : Ref sig .tc := ⟨.hbm, 420, rfl⟩
abbrev main_v298 : Ref sig .tc := ⟨.hbm, 421, rfl⟩
abbrev main_v299 : Ref sig .tc := ⟨.hbm, 422, rfl⟩
abbrev main_v300 : Ref sig .tc := ⟨.hbm, 423, rfl⟩
abbrev main_v301 : Ref sig .tc := ⟨.hbm, 424, rfl⟩
abbrev main_v302 : Ref sig .tc := ⟨.hbm, 425, rfl⟩
abbrev main_v303 : Ref sig .tc := ⟨.hbm, 426, rfl⟩
abbrev main_v304 : Ref sig .tc := ⟨.hbm, 427, rfl⟩
abbrev main_v305 : Ref sig .tc := ⟨.hbm, 428, rfl⟩
abbrev main_cst_75 : Ref sig .tc := ⟨.hbm, 429, rfl⟩
abbrev main_v306 : Ref sig .tc := ⟨.hbm, 430, rfl⟩
abbrev main_cst_76 : Ref sig .tc := ⟨.hbm, 431, rfl⟩
abbrev main_v307 : Ref sig .tc := ⟨.hbm, 432, rfl⟩
abbrev main_v308 : Ref sig .tc := ⟨.hbm, 433, rfl⟩
abbrev main_v309 : Ref sig .tc := ⟨.hbm, 434, rfl⟩
abbrev main_cst_77 : Ref sig .tc := ⟨.hbm, 435, rfl⟩
abbrev main_v310 : Ref sig .tc := ⟨.hbm, 436, rfl⟩
abbrev main_v311 : Ref sig .tc := ⟨.hbm, 437, rfl⟩
abbrev main_cst_78 : Ref sig .tc := ⟨.hbm, 438, rfl⟩
abbrev main_v312 : Ref sig .tc := ⟨.hbm, 439, rfl⟩
abbrev main_cst_79 : Ref sig .tc := ⟨.hbm, 440, rfl⟩
abbrev main_v313 : Ref sig .tc := ⟨.hbm, 441, rfl⟩
abbrev main_v314 : Ref sig .tc := ⟨.hbm, 442, rfl⟩
abbrev main_v315 : Ref sig .tc := ⟨.hbm, 443, rfl⟩
abbrev main_v316 : Ref sig .tc := ⟨.hbm, 444, rfl⟩
abbrev main_cst_80 : Ref sig .tc := ⟨.hbm, 445, rfl⟩
abbrev main_v317 : Ref sig .tc := ⟨.hbm, 446, rfl⟩
abbrev main_v318 : Ref sig .tc := ⟨.hbm, 447, rfl⟩
abbrev main_v319 : Ref sig .tc := ⟨.hbm, 448, rfl⟩
abbrev main_v320 : Ref sig .tc := ⟨.hbm, 449, rfl⟩
abbrev main_v321 : Ref sig .tc := ⟨.hbm, 450, rfl⟩
abbrev main_cst_81 : Ref sig .tc := ⟨.hbm, 451, rfl⟩
abbrev main_call12_v0 : Ref sig .tc := ⟨.hbm, 452, rfl⟩
abbrev main_call12_v1 : Ref sig .tc := ⟨.hbm, 453, rfl⟩
abbrev main_v322 : Ref sig .tc := ⟨.hbm, 454, rfl⟩
abbrev main_v323 : Ref sig .tc := ⟨.hbm, 455, rfl⟩
abbrev main_v324 : Ref sig .tc := ⟨.hbm, 456, rfl⟩
abbrev main_v325 : Ref sig .tc := ⟨.hbm, 457, rfl⟩
abbrev main_v326 : Ref sig .tc := ⟨.hbm, 458, rfl⟩
abbrev main_v327 : Ref sig .tc := ⟨.hbm, 459, rfl⟩
abbrev main_v328 : Ref sig .tc := ⟨.hbm, 460, rfl⟩
abbrev main_v329 : Ref sig .tc := ⟨.hbm, 461, rfl⟩
abbrev main_v330 : Ref sig .tc := ⟨.hbm, 462, rfl⟩
abbrev main_v331 : Ref sig .tc := ⟨.hbm, 463, rfl⟩
abbrev main_v332 : Ref sig .tc := ⟨.hbm, 464, rfl⟩
abbrev main_v333 : Ref sig .tc := ⟨.hbm, 465, rfl⟩
abbrev main_cst_82 : Ref sig .tc := ⟨.hbm, 466, rfl⟩
abbrev main_v334 : Ref sig .tc := ⟨.hbm, 467, rfl⟩
abbrev main_cst_83 : Ref sig .tc := ⟨.hbm, 468, rfl⟩
abbrev main_v335 : Ref sig .tc := ⟨.hbm, 469, rfl⟩
abbrev main_v336 : Ref sig .tc := ⟨.hbm, 470, rfl⟩
abbrev main_v337 : Ref sig .tc := ⟨.hbm, 471, rfl⟩
abbrev main_cst_84 : Ref sig .tc := ⟨.hbm, 472, rfl⟩
abbrev main_v338 : Ref sig .tc := ⟨.hbm, 473, rfl⟩
abbrev main_v339 : Ref sig .tc := ⟨.hbm, 474, rfl⟩
abbrev main_cst_85 : Ref sig .tc := ⟨.hbm, 475, rfl⟩
abbrev main_v340 : Ref sig .tc := ⟨.hbm, 476, rfl⟩
abbrev main_cst_86 : Ref sig .tc := ⟨.hbm, 477, rfl⟩
abbrev main_v341 : Ref sig .tc := ⟨.hbm, 478, rfl⟩
abbrev main_v342 : Ref sig .tc := ⟨.hbm, 479, rfl⟩
abbrev main_v343 : Ref sig .tc := ⟨.hbm, 480, rfl⟩
abbrev main_v344 : Ref sig .tc := ⟨.hbm, 481, rfl⟩
abbrev main_cst_87 : Ref sig .tc := ⟨.hbm, 482, rfl⟩
abbrev main_v345 : Ref sig .tc := ⟨.hbm, 483, rfl⟩
abbrev main_v346 : Ref sig .tc := ⟨.hbm, 484, rfl⟩
abbrev main_v347 : Ref sig .tc := ⟨.hbm, 485, rfl⟩
abbrev main_v348 : Ref sig .tc := ⟨.hbm, 486, rfl⟩
abbrev main_v349 : Ref sig .tc := ⟨.hbm, 487, rfl⟩
abbrev main_cst_88 : Ref sig .tc := ⟨.hbm, 488, rfl⟩
abbrev main_call13_v0 : Ref sig .tc := ⟨.hbm, 489, rfl⟩
abbrev main_call13_v1 : Ref sig .tc := ⟨.hbm, 490, rfl⟩
abbrev main_v350 : Ref sig .tc := ⟨.hbm, 491, rfl⟩
abbrev main_v351 : Ref sig .tc := ⟨.hbm, 492, rfl⟩
abbrev main_v352 : Ref sig .tc := ⟨.hbm, 493, rfl⟩
abbrev main_v353 : Ref sig .tc := ⟨.hbm, 494, rfl⟩
abbrev main_v354 : Ref sig .tc := ⟨.hbm, 495, rfl⟩
abbrev main_v355 : Ref sig .tc := ⟨.hbm, 496, rfl⟩
abbrev main_v356 : Ref sig .tc := ⟨.hbm, 497, rfl⟩
abbrev main_v357 : Ref sig .tc := ⟨.hbm, 498, rfl⟩
abbrev main_v358 : Ref sig .tc := ⟨.hbm, 499, rfl⟩
abbrev main_v359 : Ref sig .tc := ⟨.hbm, 500, rfl⟩
abbrev main_v360 : Ref sig .tc := ⟨.hbm, 501, rfl⟩
abbrev main_v361 : Ref sig .tc := ⟨.hbm, 502, rfl⟩
abbrev main_cst_89 : Ref sig .tc := ⟨.hbm, 503, rfl⟩
abbrev main_v362 : Ref sig .tc := ⟨.hbm, 504, rfl⟩
abbrev main_cst_90 : Ref sig .tc := ⟨.hbm, 505, rfl⟩
abbrev main_v363 : Ref sig .tc := ⟨.hbm, 506, rfl⟩
abbrev main_v364 : Ref sig .tc := ⟨.hbm, 507, rfl⟩
abbrev main_v365 : Ref sig .tc := ⟨.hbm, 508, rfl⟩
abbrev main_cst_91 : Ref sig .tc := ⟨.hbm, 509, rfl⟩
abbrev main_v366 : Ref sig .tc := ⟨.hbm, 510, rfl⟩
abbrev main_v367 : Ref sig .tc := ⟨.hbm, 511, rfl⟩
abbrev main_cst_92 : Ref sig .tc := ⟨.hbm, 512, rfl⟩
abbrev main_v368 : Ref sig .tc := ⟨.hbm, 513, rfl⟩
abbrev main_cst_93 : Ref sig .tc := ⟨.hbm, 514, rfl⟩
abbrev main_v369 : Ref sig .tc := ⟨.hbm, 515, rfl⟩
abbrev main_v370 : Ref sig .tc := ⟨.hbm, 516, rfl⟩
abbrev main_v371 : Ref sig .tc := ⟨.hbm, 517, rfl⟩
abbrev main_v372 : Ref sig .tc := ⟨.hbm, 518, rfl⟩
abbrev main_cst_94 : Ref sig .tc := ⟨.hbm, 519, rfl⟩
abbrev main_v373 : Ref sig .tc := ⟨.hbm, 520, rfl⟩
abbrev main_v374 : Ref sig .tc := ⟨.hbm, 521, rfl⟩
abbrev main_v375 : Ref sig .tc := ⟨.hbm, 522, rfl⟩
abbrev main_v376 : Ref sig .tc := ⟨.hbm, 523, rfl⟩
abbrev main_v377 : Ref sig .tc := ⟨.hbm, 524, rfl⟩
abbrev main_cst_95 : Ref sig .tc := ⟨.hbm, 525, rfl⟩
abbrev main_call14_v0 : Ref sig .tc := ⟨.hbm, 526, rfl⟩
abbrev main_call14_v1 : Ref sig .tc := ⟨.hbm, 527, rfl⟩
abbrev main_v378 : Ref sig .tc := ⟨.hbm, 528, rfl⟩
abbrev main_v379 : Ref sig .tc := ⟨.hbm, 529, rfl⟩
abbrev main_v380 : Ref sig .tc := ⟨.hbm, 530, rfl⟩
abbrev main_v381 : Ref sig .tc := ⟨.hbm, 531, rfl⟩
abbrev main_v382 : Ref sig .tc := ⟨.hbm, 532, rfl⟩
abbrev main_v383 : Ref sig .tc := ⟨.hbm, 533, rfl⟩
abbrev main_v384 : Ref sig .tc := ⟨.hbm, 534, rfl⟩
abbrev main_v385 : Ref sig .tc := ⟨.hbm, 535, rfl⟩
abbrev main_v386 : Ref sig .tc := ⟨.hbm, 536, rfl⟩
abbrev main_v387 : Ref sig .tc := ⟨.hbm, 537, rfl⟩
abbrev main_v388 : Ref sig .tc := ⟨.hbm, 538, rfl⟩
abbrev main_v389 : Ref sig .tc := ⟨.hbm, 539, rfl⟩
abbrev main_cst_96 : Ref sig .tc := ⟨.hbm, 540, rfl⟩
abbrev main_v390 : Ref sig .tc := ⟨.hbm, 541, rfl⟩
abbrev main_cst_97 : Ref sig .tc := ⟨.hbm, 542, rfl⟩
abbrev main_v391 : Ref sig .tc := ⟨.hbm, 543, rfl⟩
abbrev main_v392 : Ref sig .tc := ⟨.hbm, 544, rfl⟩
abbrev main_v393 : Ref sig .tc := ⟨.hbm, 545, rfl⟩
abbrev main_cst_98 : Ref sig .tc := ⟨.hbm, 546, rfl⟩
abbrev main_v394 : Ref sig .tc := ⟨.hbm, 547, rfl⟩
abbrev main_v395 : Ref sig .tc := ⟨.hbm, 548, rfl⟩
abbrev main_cst_99 : Ref sig .tc := ⟨.hbm, 549, rfl⟩
abbrev main_v396 : Ref sig .tc := ⟨.hbm, 550, rfl⟩
abbrev main_cst_100 : Ref sig .tc := ⟨.hbm, 551, rfl⟩
abbrev main_v397 : Ref sig .tc := ⟨.hbm, 552, rfl⟩
abbrev main_v398 : Ref sig .tc := ⟨.hbm, 553, rfl⟩
abbrev main_v399 : Ref sig .tc := ⟨.hbm, 554, rfl⟩
abbrev main_v400 : Ref sig .tc := ⟨.hbm, 555, rfl⟩
abbrev main_cst_101 : Ref sig .tc := ⟨.hbm, 556, rfl⟩
abbrev main_v401 : Ref sig .tc := ⟨.hbm, 557, rfl⟩
abbrev main_v402 : Ref sig .tc := ⟨.hbm, 558, rfl⟩
abbrev main_v403 : Ref sig .tc := ⟨.hbm, 559, rfl⟩
abbrev main_v404 : Ref sig .tc := ⟨.hbm, 560, rfl⟩
abbrev main_v405 : Ref sig .tc := ⟨.hbm, 561, rfl⟩
abbrev main_cst_102 : Ref sig .tc := ⟨.hbm, 562, rfl⟩
abbrev main_call15_v0 : Ref sig .tc := ⟨.hbm, 563, rfl⟩
abbrev main_call15_v1 : Ref sig .tc := ⟨.hbm, 564, rfl⟩
abbrev main_v406 : Ref sig .tc := ⟨.hbm, 565, rfl⟩
abbrev main_v407 : Ref sig .tc := ⟨.hbm, 566, rfl⟩
abbrev main_v408 : Ref sig .tc := ⟨.hbm, 567, rfl⟩
abbrev main_v409 : Ref sig .tc := ⟨.hbm, 568, rfl⟩
abbrev main_v410 : Ref sig .tc := ⟨.hbm, 569, rfl⟩
abbrev main_v411 : Ref sig .tc := ⟨.hbm, 570, rfl⟩
abbrev main_v412 : Ref sig .tc := ⟨.hbm, 571, rfl⟩
abbrev main_v413 : Ref sig .tc := ⟨.hbm, 572, rfl⟩
abbrev main_v414 : Ref sig .tc := ⟨.hbm, 573, rfl⟩
abbrev main_v415 : Ref sig .tc := ⟨.hbm, 574, rfl⟩
abbrev main_v416 : Ref sig .tc := ⟨.hbm, 575, rfl⟩
abbrev main_v417 : Ref sig .tc := ⟨.hbm, 576, rfl⟩
abbrev main_cst_103 : Ref sig .tc := ⟨.hbm, 577, rfl⟩
abbrev main_v418 : Ref sig .tc := ⟨.hbm, 578, rfl⟩
abbrev main_cst_104 : Ref sig .tc := ⟨.hbm, 579, rfl⟩
abbrev main_v419 : Ref sig .tc := ⟨.hbm, 580, rfl⟩
abbrev main_v420 : Ref sig .tc := ⟨.hbm, 581, rfl⟩
abbrev main_v421 : Ref sig .tc := ⟨.hbm, 582, rfl⟩
abbrev main_cst_105 : Ref sig .tc := ⟨.hbm, 583, rfl⟩
abbrev main_v422 : Ref sig .tc := ⟨.hbm, 584, rfl⟩
abbrev main_v423 : Ref sig .tc := ⟨.hbm, 585, rfl⟩
abbrev main_cst_106 : Ref sig .tc := ⟨.hbm, 586, rfl⟩
abbrev main_v424 : Ref sig .tc := ⟨.hbm, 587, rfl⟩
abbrev main_cst_107 : Ref sig .tc := ⟨.hbm, 588, rfl⟩
abbrev main_v425 : Ref sig .tc := ⟨.hbm, 589, rfl⟩
abbrev main_v426 : Ref sig .tc := ⟨.hbm, 590, rfl⟩
abbrev main_v427 : Ref sig .tc := ⟨.hbm, 591, rfl⟩
abbrev main_v428 : Ref sig .tc := ⟨.hbm, 592, rfl⟩
abbrev main_cst_108 : Ref sig .tc := ⟨.hbm, 593, rfl⟩
abbrev main_v429 : Ref sig .tc := ⟨.hbm, 594, rfl⟩
abbrev main_v430 : Ref sig .tc := ⟨.hbm, 595, rfl⟩
abbrev main_v431 : Ref sig .tc := ⟨.hbm, 596, rfl⟩
abbrev main_v432 : Ref sig .tc := ⟨.hbm, 597, rfl⟩
abbrev main_v433 : Ref sig .tc := ⟨.hbm, 598, rfl⟩
abbrev main_cst_109 : Ref sig .tc := ⟨.hbm, 599, rfl⟩
abbrev main_call16_v0 : Ref sig .tc := ⟨.hbm, 600, rfl⟩
abbrev main_call16_v1 : Ref sig .tc := ⟨.hbm, 601, rfl⟩
abbrev main_v434 : Ref sig .tc := ⟨.hbm, 602, rfl⟩
abbrev main_v435 : Ref sig .tc := ⟨.hbm, 603, rfl⟩
abbrev main_cst_110 : Ref sig .tc := ⟨.hbm, 604, rfl⟩
abbrev main_v436 : Ref sig .tc := ⟨.hbm, 605, rfl⟩
abbrev main_cst_111 : Ref sig .tc := ⟨.hbm, 606, rfl⟩
abbrev main_v437 : Ref sig .tc := ⟨.hbm, 607, rfl⟩

abbrev nD : Nat := 1
abbrev τ : Topo := Topo.v7x

variable {F : FTy → Type} [FloatOps F]
-- ==== Proof.Kernel.Strip.lean ====
/- What one 128-lane strip computes: the pure values the body of the kernel stores, as functions of what it loads. -/
module

public import proofs.«01_k».proof.Proof.Gen.Kernel

@[expose] public section

set_option maxRecDepth 16384

noncomputable section

namespace Cert.Kernel.Body

open Idealize.ShloMosaic Idealize.SL.Sem
open Cert.Kernel Facts₀ Facts

variable {F : FTy → Type} [FloatOps F]

/-- The upper edge of bin `k` (the first fourteen bins; the last bin has no upper edge). -/
def edge : Nat → F .f32
  | 0 => Scalar.ofBits .f32 0x3D888889#32
  | 1 => Scalar.ofBits .f32 0x3E088889#32
  | 2 => Scalar.ofBits .f32 0x3E4CCCCD#32
  | 3 => Scalar.ofBits .f32 0x3E888889#32
  | 4 => Scalar.ofBits .f32 0x3EAAAAAB#32
  | 5 => Scalar.ofBits .f32 0x3ECCCCCD#32
  | 6 => Scalar.ofBits .f32 0x3EEEEEEF#32
  | 7 => Scalar.ofBits .f32 0x3F088889#32
  | 8 => Scalar.ofBits .f32 0x3F19999A#32
  | 9 => Scalar.ofBits .f32 0x3F2AAAAB#32
  | 10 => Scalar.ofBits .f32 0x3F3BBBBC#32
  | 11 => Scalar.ofBits .f32 0x3F4CCCCD#32
  | 12 => Scalar.ofBits .f32 0x3F5DDDDE#32
  | _ => Scalar.ofBits .f32 0x3F6EEEEF#32

/-- The exponentials of a strip's logits, each column shifted by its maximum. -/
def expo (x : Vec F S100x128 .f32) : FVec F S100x128 .f32 :=
  exp (subf (shapeCast S100x128 x shapeCasts_S100x128_S100x128)
    (broadcastTo S100x128
      (shapeCast S1x128
        (multiReduction .maximumf [0] S128 (shapeCast S100x128 x shapeCasts_S100x128_S100x128)
          0xFF800000#32 reduces_S100x128_S128 (.inl rfl) rfl)
        shapeCasts_S128_S1x128)
      broadcasts_S1x128_S100x128))

/-- A strip's softmax: the exponentials times the reciprocal of their column sum. -/
def soft (x : Vec F S100x128 .f32) : FVec F S100x128 .f32 :=
  mulf (expo x)
    (broadcastTo S100x128
      (divf (broadcast S1x128 (Scalar.ofBits .f32 0x3F800000#32))
        (shapeCast S1x128
          (multiReduction .add [0] S128 (expo x) 0x00000000#32 reduces_S100x128_S128 (.inl rfl) rfl)
          shapeCasts_S128_S1x128))
      broadcasts_S1x128_S100x128)

/-- Where the row is the column's label. -/
def hot (l : Vec F S1x128 .i32) : IVec S100x128 1 :=
  cmpi .eq
    (broadcastTo S100x128 (iota .tc S100x1 32 [0] iota_S100x1_d0_w32) broadcasts_S100x1_S100x128)
    (broadcastTo S100x128 (shapeCast S1x128 l shapeCasts_S1x128_S1x128) broadcasts_S1x128_S100x128)

/-- Where the column lies inside the batch, for the strip at word offset `o` of the block of grid point `g`. -/
def live (g o : BitVec 32) : IVec S100x128 1 :=
  broadcastTo S100x128
    (shapeCast S1x128
      (cmpi .slt (iota .tc S1x128 32 [1] iota_S1x128_d1_w32)
        (broadcast S1x128 (Scalar.subi (Scalar.subi 200000#32 (Scalar.muli g 3840#32)) o)))
      shapeCasts_S1x128_S1x128)
    broadcasts_S1x128_S100x128

/-- The signed gap: the confidence, less one at the label, and zero outside the batch. -/
def gap (g o : BitVec 32) (x : Vec F S100x128 .f32) (l : Vec F S1x128 .i32) : FVec F S100x128 .f32 :=
  select (live g o)
    (select (hot l) (subf (soft x) (broadcast S100x128 (Scalar.ofBits .f32 0x3F800000#32))) (soft x))
    (broadcast S100x128 (Scalar.ofBits .f32 0x00000000#32))

/-- The new accumulator of a bin with upper edge `b`: the gap is added where the confidence is at most `b`. -/
def below (b : F .f32) (s q : FVec F S100x128 .f32) (v w : Vec F S1x100x128 .f32) : FVec F S1x100x128 .f32 :=
  shapeCast S1x100x128
    (select (cmpf .ole s (broadcast S100x128 b))
      (addf (shapeCast S100x128 v shapeCasts_S1x100x128_S100x128) q)
      (shapeCast S100x128 w shapeCasts_S1x100x128_S100x128))
    shapeCasts_S100x128_S1x100x128

/-- The new accumulator of the last bin: the gap is always added. -/
def all (q : FVec F S100x128 .f32) (v : Vec F S1x100x128 .f32) : FVec F S1x100x128 .f32 :=
  shapeCast S1x100x128 (addf (shapeCast S100x128 v shapeCasts_S1x100x128_S100x128) q)
    shapeCasts_S100x128_S1x100x128

/-- The cleared accumulators. -/
def cleared : FVec F S15x100x128 .f32 :=
  shapeCast S15x100x128 (broadcast S15x100x128 (Scalar.ofBits .f32 0x00000000#32))
    shapeCasts_S15x100x128_S15x100x128

/-- The lane sums of the accumulators. -/
def lanes (A : Vec F S15x100x128 .f32) : FVec F S15x100 .f32 :=
  multiReduction .add [2] S15x100 A 0x00000000#32 reduces_S15x100x128_S15x100 (.inl rfl) rfl

/-- The total: the first bin's absolute sums, and the absolute differences of consecutive bins' sums. -/
def total (T : FVec F S15x100 .f32) : F .f32 :=
  Scalar.addf
    (extractAt ![0, 0, 0]
      (shapeCast S1x1x1
        (multiReduction .add [1, 2] S1
          (shapeCast S1x1x100 (absf (extractStridedSlice S1x100 ![0, 0] T slices_S15x100_o0_0_S1x100))
            shapeCasts_S1x100_S1x1x100)
          0x00000000#32 reduces_S1x1x100_S1 (.inl rfl) rfl)
        shapeCasts_S1_S1x1x1) inpos_S1x1x1_p0_0_0)
    (extractAt ![0, 0, 0]
      (shapeCast S1x1x1
        (multiReduction .add [1, 2] S1
          (shapeCast S1x14x100
            (absf (subf (extractStridedSlice S14x100 ![1, 0] T slices_S15x100_o1_0_S14x100)
              (extractStridedSlice S14x100 ![0, 0] T slices_S15x100_o0_0_S14x100)))
            shapeCasts_S14x100_S1x14x100)
          0x00000000#32 reduces_S1x14x100_S1 (.inl rfl) rfl)
        shapeCasts_S1_S1x1x1) inpos_S1x1x1_p0_0_0)

/-- What the last grid point stores: the total over the number of confidences. -/
def result (A : Vec F S15x100x128 .f32) : FVec F S1x1 .f32 :=
  broadcast S1x1 (Scalar.divf (total (lanes A)) (Scalar.ofBits .f32 0x4B989680#32))

end Cert.Kernel.Body
-- ==== Proof.Access.lean ====
/- Loads and stores through a unit-stride rectangle of a memref that is owned at known contents. -/
module

public import Idealize.ShloMosaic.Lib.Pipeline.Frame
public import Idealize.ShloMosaic.Lib.VecWindow
public import Idealize.ShloMosaic.Lib.Tactic

@[expose] public section

noncomputable section

namespace Cert.Access

open Idealize.ShloMosaic
open Idealize.SL Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Val : EltTy → Type} {Λ : Labels}

local notation "𝕄" => MT nD τ sig Unit Val ℕ (UR sig nD τ) ℕ

variable {defs : Defs nD τ sig Val Λ} (𝒱 : Variants) (c : Thread nD τ) (E : Set ℕ) {α : Type}
variable {cs : CoreSpace} {s : Shape} {e : EltTy} (m : Memref sig c.2.kind cs s e)
variable {off size : Fin s.rank → ℕ} (inb : ∀ a, off a + size a ≤ s.size a)

/-- A load through a rectangle of a memref owned at `X` continues with the window of `X` there. -/
theorem load (Q : α → sProp 𝕄) (q : PosShare TreeShare) (X : s.Idx → Val e) {hl : m.view.LoadsAt (Rect.unit off size inb).toLoadRect}
    {k : ((Rect.unit off size inb).shape.Idx → Val e) → Prog (TpuEff nD τ sig Val Λ c.2) α} :
    (owns c m q X : sProp 𝕄)
      ⊢ iprop((owns c m q X -∗ wp frame (wpE defs 𝒱 c none) E (k (VecWindow.window X off size inb)) Q)
        -∗ wp frame (wpE defs 𝒱 c none) E (.op (.load m (Rect.unit off size inb).toLoadRect hl) k) Q) := by
  unfold owns
  iintro ⟨%f, %hf, H⟩ Hk
  subst hf
  ihave Hw := (wp_load (defs := defs) 𝒱 c none E (Q := Q) (m := m) (hl := hl) (k := k) (q := q) (f := f)
    (S := m.view.set) (by
      have h := View.set_slice_subset m.view (Rect.unit off size inb)
      rw [View.set_slice] at h; exact h)) $$ H
  iapply Hw
  iintro H
  iapply Hk
  iexists f
  isplitr
  · ipureintro; rfl
  iexact H

/-- An unmasked store through a rectangle of a memref owned at `X` leaves it owned at `X` with the payload put there. -/
theorem store (Q : α → sProp 𝕄) (X : s.Idx → Val e) {w : (Rect.unit off size inb).shape.Idx → Val e}
    {hx : (m.access (Rect.unit off size inb)).Stores Finset.univ}
    {hm : Finset.univ = Finset.univ ∨ ∀ a, (Rect.unit off size inb).stride a = 1}
    {k : PUnit → Prog (TpuEff nD τ sig Val Λ c.2) α} :
    (owns c m fullShare X : sProp 𝕄)
      ⊢ iprop((owns c m fullShare (VecWindow.put X off size w) -∗ wp frame (wpE defs 𝒱 c none) E (k ⟨⟩) Q)
        -∗ wp frame (wpE defs 𝒱 c none) E (.op (.store m (Rect.unit off size inb) w Finset.univ hx hm) k) Q) := by
  unfold owns
  iintro ⟨%f, %hf, H⟩ Hk
  subst hf
  ihave Hw := (wp_store (defs := defs) 𝒱 c none E (Q := Q) (m := m) (w := w) (hx := hx) (hm := hm) (k := k) (f := f)
    (S := m.view.set) (View.set_slice_subset _ _)) $$ H
  iapply Hw
  iintro H
  iapply Hk
  iexists _
  isplitr
  · ipureintro; exact View.read_writes_cons_put m.view f inb w [] rfl
  iexact H

end Cert.Access
-- ==== Proof.Kernel.Frames.lean ====
/- The word-level kernel's frame: it ends, its arguments stay, and every semaphore counter is back at zero. -/
module

public import proofs.«01_k».proof.Proof.Kernel.Step
public import proofs.«01_k».proof.Proof.Gen.Kernel.Frame
public import proofs.«01_k».proof.Defs

@[expose] public section

set_option maxRecDepth 16384

noncomputable section

namespace Cert.Kernel.Body

open Idealize.ShloMosaic Idealize.ShloMosaic.TcCoe Idealize.SL Idealize.SL.RA Idealize.SL.Sem Idealize.SL.ProofMode
open Idealize.SL.BI (sProp)
open scoped Idealize.SL.BI
open Idealize.SL.BI.BIBase Idealize.SL.BI.Laws
open Idealize.ShloMosaic.Rounds
open Idealize.ShloMosaic.Pipeline (Dat Cfg Window BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window is not named; the two inputs are. -/
def fgt : Fin 3 → Bool
  | 0 => false
  | 1 => false
  | 2 => true

/-- The proof data: the inputs stay, the output is anything, the accumulators are anything. -/
def dats (p : Fin 1) (c : Dev nD) : Dat τ (Elt F) Unit ℕ (UR sig nD τ) ℕ (cfgs p) c where
  A w := V m c (Pipeline.arrRef spec0 w)
  after w t := match w with
    | ⟨0, h⟩ => (cfg0.win ⟨0, h⟩).fill (cfg0.grid.coords t) (fun _ => Classical.arbitrary _) (iblk m c ⟨0, h⟩ t)
    | ⟨1, h⟩ => (cfg0.win ⟨1, h⟩).fill (cfg0.grid.coords t) (fun _ => Classical.arbitrary _) (iblk m c ⟨1, h⟩ t)
    | ⟨2, h⟩ => fun _ => Classical.arbitrary _
  Φ _ := Pipeline.ΦA spec0 c
  q _ := fullShare
  owed _ := 0

theorem before_0 (c : Dev nD) (t : Fin cfg0.N) (d) : (dats m 0 c).before (0 : Fin 3) t d = win0_0.fill (grid0.coords t) d (iblk m c 0 t) := by
  unfold Dat.before; rw [if_pos (fetch0_0 t)]; rfl

theorem before_1 (c : Dev nD) (t : Fin cfg0.N) (d) : (dats m 0 c).before (1 : Fin 3) t d = win0_1.fill (grid0.coords t) d (iblk m c 1 t) := by
  unfold Dat.before; rw [if_pos (fetch0_1 t)]; rfl

/-- The class's invariant: the accumulators at some contents, and the generator register at some state. -/
theorem scratch_any (c : Dev nD) : (Pipeline.ΦA spec0 c : sProp 𝕄)
    = iprop((∃ A : S15x100x128.Idx → F .f32, owns (c : Thread nD τ) (Memref.whole cc0_scratch0) fullShare A) ∗ ∃ r, prngReg c r) := by
  unfold Pipeline.ΦA
  rw [scopedRest0_eq]
  simp only [owns_whole]
  rfl

/-- The body at any point, from the class's invariant to it. -/
theorem body_obligation (c : Dev nD) : BodyObligationLoose (dats m 0 c) (defs₀ (F := F)) Variants.none () Set.univ fgt := fun t => by
  rw [bigSep_W0, bigSep_W0]
  simp only [fgt]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  rw [scratch_any]
  iintro ⟨⟨⟨%A, HA⟩, HP⟩, Ho, ⟨%d0, H0⟩, ⟨%d1, H1⟩, ⟨%O, H2⟩⟩
  rw [before_0 m c t d0, before_1 m c t d1]
  iapply (body_sound Variants.none c Set.univ (st0_0 t) (hstage0_0 ((cfg0.slots t 0).cast Facts₀.nbuf0_0)) (st0_1 t)
    (hstage0_1 ((cfg0.slots t 1).cast Facts₀.nbuf0_1)) (st0_2 t) (hstage0_2 ((cfg0.slots t 2).cast Facts₀.nbuf0_2))
    (Memref.whole cc0_scratch0) (Memref.isWhole_whole cc0_scratch0) _ (grid0.coords t) (win0_0.fill (grid0.coords t) d0 (iblk m c 0 t))
    (win0_1.fill (grid0.coords t) d1 (iblk m c 1 t)) O A) $$ [HA H0 H1 H2]
  · isplitl [H0]; · iexact H0
    isplitl [H1]; · iexact H1
    isplitl [H2]; · iexact H2
    iexact HA
  iintro ⟨H0, H1, H2, HA⟩
  isplitl [HA HP]
  · isplitl [HA]
    · iexists _; iexact HA
    iexact HP
  isplitl [Ho]; · iexact Ho
  isplitl [H0]
  · iexists d0
    have h : win0_0.cut (grid0.coords t) ((dats m 0 c).after (0 : Fin 3) t) = iblk m c 0 t := win0_0.cut_fill _ _ _
    change _ ⊢ owns (c : Thread nD τ) (st0_0 t) fullShare (win0_0.fill (grid0.coords t) d0 (win0_0.cut (grid0.coords t) ((dats m 0 c).after (0 : Fin 3) t)))
    rw [h]
  isplitl [H1]
  · iexists d1
    have h : win0_1.cut (grid0.coords t) ((dats m 0 c).after (1 : Fin 3) t) = iblk m c 1 t := win0_1.cut_fill _ _ _
    change _ ⊢ owns (c : Thread nD τ) (st0_1 t) fullShare (win0_1.fill (grid0.coords t) d1 (win0_1.cut (grid0.coords t) ((dats m 0 c).after (1 : Fin 3) t)))
    rw [h]
  iexists _
  iexact H2

/-- The host line after the kernel writes only its result. -/
theorem tail_writes : ∀ ops ∈ ([hostOps1] : List (List (HloOp τ sig (Elt F)))), ∀ op ∈ ops, ∀ b : Ref sig .tc,
    Proc.devRef .tc b ∈ op.writes → b ∈ ({main_v3} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  by_contra hne
  exact StableHlo.devRef_ne_of_ne (by simpa using hne) hb

set_option backward.isDefEq.respectTransparency.types false in
/-- Every execution ends with the arguments as launched and every counter at zero. -/
theorem run_main : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_frame_around_T_forget cfgs (dats m) (0 : Fin 1) launch0 defs₀ Variants.none fgt {main_v3} m ρ main
    (hbody := body_obligation m)
    (hshare := fun c => (dats m 0 c).share_full fun _ => rfl) (howed := fun _ _ => rfl)
    (V₀ := V0 m) (opss := [hostOps1]) (hsub := sfx_sub) (hfresh := sfx_fresh) (hkeep := sfx_keeps) (hT := tail_writes)
    (hmain := hmain m Variants.none) (hA := fun _ _ => rfl) (hΦ := fun _ _ => rfl)
    (Q' := _)
    (hQ' := fun r h => ⟨fun c =>
      ⟨((h.1 c).2 main_arg0 (Finset.mem_sdiff.mpr ⟨Pipeline.mem_restRefs_of main_arg0 (by decide) (by decide), by decide⟩)).trans (V_main_arg0 m c),
       ((h.1 c).2 main_arg1 (Finset.mem_sdiff.mpr ⟨Pipeline.mem_restRefs_of main_arg1 (by decide) (by decide), by decide⟩)).trans (V_main_arg1 m c)⟩, h.2⟩)

end Cert.Kernel.Body

/-- The word-level kernel's frame claim. -/
theorem Cert.Kernel.Body.frame : Cert.quiescent_Kernel := fun m ρ _ => Cert.Kernel.Body.run_main m ρ
-- ==== Proof.KernelIdeal.Strip.lean ====
/- What one 128-lane strip computes: the pure values the body of the kernel stores, as functions of what it loads. -/
module

public import proofs.«01_k».proof.Proof.Gen.KernelIdeal

@[expose] public section

set_option maxRecDepth 16384

noncomputable section

namespace Cert.KernelIdeal.Body

open Idealize.ShloMosaic Idealize.SL.Sem
open Cert.KernelIdeal Facts₀ Facts

variable {F : FTy → Type} [FloatOps F] [Named F]

/-- The upper edge of bin `k` (the first fourteen bins; the last bin has no upper edge). -/
def edge : Nat → F .f32
  | 0 => Named.named κ "bound_1" 0x3D888889#32
  | 1 => Named.named κ "bound_2" 0x3E088889#32
  | 2 => Named.named κ "bound_3" 0x3E4CCCCD#32
  | 3 => Named.named κ "bound_4" 0x3E888889#32
  | 4 => Named.named κ "bound_5" 0x3EAAAAAB#32
  | 5 => Named.named κ "bound_6" 0x3ECCCCCD#32
  | 6 => Named.named κ "bound_7" 0x3EEEEEEF#32
  | 7 => Named.named κ "bound_8" 0x3F088889#32
  | 8 => Named.named κ "bound_9" 0x3F19999A#32
  | 9 => Named.named κ "bound_10" 0x3F2AAAAB#32
  | 10 => Named.named κ "bound_11" 0x3F3BBBBC#32
  | 11 => Named.named κ "bound_12" 0x3F4CCCCD#32
  | 12 => Named.named κ "bound_13" 0x3F5DDDDE#32
  | _ => Named.named κ "bound_14" 0x3F6EEEEF#32

/-- The exponentials of a strip's logits, each column shifted by its maximum. -/
def expo (x : Vec F S100x128 .f32) : FVec F S100x128 .f32 :=
  exp (subf (shapeCast S100x128 x shapeCasts_S100x128_S100x128)
    (broadcastTo S100x128
      (shapeCast S1x128
        (multiReduction .maximumf [0] S128 (shapeCast S100x128 x shapeCasts_S100x128_S100x128)
          0xFF800000#32 reduces_S100x128_S128 (.inl rfl) rfl)
        shapeCasts_S128_S1x128)
      broadcasts_S1x128_S100x128))

/-- A strip's softmax: the exponentials times the reciprocal of their column sum. -/
def soft (x : Vec F S100x128 .f32) : FVec F S100x128 .f32 :=
  mulf (expo x)
    (broadcastTo S100x128
      (divf (broadcast S1x128 (Scalar.ofBits .f32 0x3F800000#32))
        (shapeCast S1x128
          (multiReduction .add [0] S128 (expo x) 0x00000000#32 reduces_S100x128_S128 (.inl rfl) rfl)
          shapeCasts_S128_S1x128))
      broadcasts_S1x128_S100x128)

/-- Where the row is the column's label. -/
def hot (l : Vec F S1x128 .i32) : IVec S100x128 1 :=
  cmpi .eq
    (broadcastTo S100x128 (iota .tc S100x1 32 [0] iota_S100x1_d0_w32) broadcasts_S100x1_S100x128)
    (broadcastTo S100x128 (shapeCast S1x128 l shapeCasts_S1x128_S1x128) broadcasts_S1x128_S100x128)

/-- Where the column lies inside the batch, for the strip at word offset `o` of the block of grid point `g`. -/
def live (g o : BitVec 32) : IVec S100x128 1 :=
  broadcastTo S100x128
    (shapeCast S1x128
      (cmpi .slt (iota .tc S1x128 32 [1] iota_S1x128_d1_w32)
        (broadcast S1x128 (Scalar.subi (Scalar.subi 200000#32 (Scalar.muli g 3840#32)) o)))
      shapeCasts_S1x128_S1x128)
    broadcasts_S1x128_S100x128

/-- The signed gap: the confidence, less one at the label, and zero outside the batch. -/
def gap (g o : BitVec 32) (x : Vec F S100x128 .f32) (l : Vec F S1x128 .i32) : FVec F S100x128 .f32 :=
  select (live g o)
    (select (hot l) (subf (soft x) (broadcast S100x128 (Scalar.ofBits .f32 0x3F800000#32))) (soft x))
    (broadcast S100x128 (Scalar.ofBits .f32 0x00000000#32))

/-- The new accumulator of a bin with upper edge `b`: the gap is added where the confidence is at most `b`. -/
def below (b : F .f32) (s q : FVec F S100x128 .f32) (v w : Vec F S1x100x128 .f32) : FVec F S1x100x128 .f32 :=
  shapeCast S1x100x128
    (select (cmpf .ole s (broadcast S100x128 b))
      (addf (shapeCast S100x128 v shapeCasts_S1x100x128_S100x128) q)
      (shapeCast S100x128 w shapeCasts_S1x100x128_S100x128))
    shapeCasts_S100x128_S1x100x128

/-- The new accumulator of the last bin: the gap is always added. -/
def all (q : FVec F S100x128 .f32) (v : Vec F S1x100x128 .f32) : FVec F S1x100x128 .f32 :=
  shapeCast S1x100x128 (addf (shapeCast S100x128 v shapeCasts_S1x100x128_S100x128) q)
    shapeCasts_S100x128_S1x100x128

/-- The cleared accumulators. -/
def cleared : FVec F S15x100x128 .f32 :=
  shapeCast S15x100x128 (broadcast S15x100x128 (Scalar.ofBits .f32 0x00000000#32))
    shapeCasts_S15x100x128_S15x100x128

/-- The lane sums of the accumulators. -/
def lanes (A : Vec F S15x100x128 .f32) : FVec F S15x100 .f32 :=
  multiReduction .add [2] S15x100 A 0x00000000#32 reduces_S15x100x128_S15x100 (.inl rfl) rfl

/-- The total: the first bin's absolute sums, and the absolute differences of consecutive bins' sums. -/
def total (T : FVec F S15x100 .f32) : F .f32 :=
  Scalar.addf
    (extractAt ![0, 0, 0]
      (shapeCast S1x1x1
        (multiReduction .add [1, 2] S1
          (shapeCast S1x1x100 (absf (extractStridedSlice S1x100 ![0, 0] T slices_S15x100_o0_0_S1x100))
            shapeCasts_S1x100_S1x1x100)
          0x00000000#32 reduces_S1x1x100_S1 (.inl rfl) rfl)
        shapeCasts_S1_S1x1x1) inpos_S1x1x1_p0_0_0)
    (extractAt ![0, 0, 0]
      (shapeCast S1x1x1
        (multiReduction .add [1, 2] S1
          (shapeCast S1x14x100
            (absf (subf (extractStridedSlice S14x100 ![1, 0] T slices_S15x100_o1_0_S14x100)
              (extractStridedSlice S14x100 ![0, 0] T slices_S15x100_o0_0_S14x100)))
            shapeCasts_S14x100_S1x14x100)
          0x00000000#32 reduces_S1x14x100_S1 (.inl rfl) rfl)
        shapeCasts_S1_S1x1x1) inpos_S1x1x1_p0_0_0)

/-- What the last grid point stores: the total over the number of confidences. -/
def result (A : Vec F S15x100x128 .f32) : FVec F S1x1 .f32 :=
  broadcast S1x1 (Scalar.divf (total (lanes A)) (Scalar.ofBits .f32 0x4B989680#32))

end Cert.KernelIdeal.Body
-- ==== Proof.KernelIdeal.Shape.lean ====
/- The body of the kernel, read as thirty equal strips: the strip as a program, and the printed body as their sequence. -/
module

public import proofs.«01_k».proof.Proof.KernelIdeal.Strip

@[expose] public section

set_option maxRecDepth 16384

noncomputable section

namespace Cert.KernelIdeal.Body

open Idealize.ShloMosaic Idealize.SL.Sem
open Cert.KernelIdeal Facts₀ Facts

variable {F : FTy → Type} [FloatOps F] [Named F]

/-- The kernel's programs. -/
abbrev Pr (F : FTy → Type) [FloatOps F] [Named F] := Prog (TpuEff nD τ sig (Elt F) Λ₀ .tc) PUnit

/-- Bin `k`'s plane lies in the accumulators. -/
theorem plane_inb {k : Nat} (hk : k < 15) :
    ∀ a, (![k, 0, 0] : Fin 3 → Nat) a + S1x100x128.size a ≤ S15x100x128.size a := by
  intro a; fin_cases a
  · show k + 1 ≤ 15; omega
  · exact Nat.le_refl _
  · exact Nat.le_refl _

/-- The strip at `o` lies in the block of logits. -/
theorem logit_inb {o : Nat} (ho : o + 128 ≤ 3840) :
    ∀ a, (![0, o] : Fin 2 → Nat) a + S100x128.size a ≤ S100x3840.size a := by
  intro a; fin_cases a
  · exact Nat.le_refl _
  · exact ho

/-- The strip at `o` lies in the block of labels. -/
theorem label_inb {o : Nat} (ho : o + 128 ≤ 3840) :
    ∀ a, (![0, o] : Fin 2 → Nat) a + S1x128.size a ≤ S1x3840.size a := by
  intro a; fin_cases a
  · exact Nat.le_refl _
  · exact ho

variable (arg1 : Memref sig .tc .vmem S100x3840 .f32) (arg2 : Memref sig .tc .vmem S1x3840 .i32)
  (arg3 : Memref sig .tc .vmem S1x1 .f32) (arg4 : Memref sig .tc .vmem S15x100x128 .f32)

/-- Read bin `k`'s plane and continue with what was read. -/
def readPlane (k : Nat) (hk : k < 15) (K : Vec F S1x100x128 .f32 → Pr F) : Pr F :=
  .op (.load arg4 (Rect.unit (s := S15x100x128) ![k, 0, 0] S1x100x128.size (plane_inb hk)).toLoadRect
    (View.loadsAt_vmem h_S1x100x128)) K

/-- Store `v` at bin `k`'s plane and continue. -/
def writePlane (k : Nat) (hk : k < 15) (v : FVec F S1x100x128 .f32) (K : Pr F) : Pr F :=
  .op (.store arg4 (Rect.unit (s := S15x100x128) ![k, 0, 0] S1x100x128.size (plane_inb hk)) v Finset.univ
    (View.stores_vmem_bits_univ h_S1x100x128 rfl) (.inl rfl)) fun _ => K

/-- The update of bin `k`, one of the first fourteen. -/
def bin (k : Nat) (hk : k < 15) (b : F .f32) (s q : FVec F S100x128 .f32) (K : Pr F) : Pr F :=
  readPlane arg4 k hk fun v => readPlane arg4 k hk fun w => readPlane arg4 k hk fun _ =>
    writePlane arg4 k hk (below b s q v w) K

/-- The update of the last bin. -/
def lastBin (q : FVec F S100x128 .f32) (K : Pr F) : Pr F :=
  readPlane arg4 14 (by decide) fun v => readPlane arg4 14 (by decide) fun _ =>
    writePlane arg4 14 (by decide) (all q v) K

/-- The updates of the bins from `k` on: `n` with an upper edge, then the last. -/
def bins (s q : FVec F S100x128 .f32) : (n k : Nat) → k + n = 14 → Pr F → Pr F
  | 0, _, _, K => lastBin arg4 q K
  | n + 1, k, h, K => bin arg4 k (by omega) (edge k) s q (bins s q n (k + 1) (by omega) K)

/-- The strip at column offset `o` of the block at grid word `g`. -/
def strip (g : BitVec 32) (o : Nat) (ho : o + 128 ≤ 3840) (K : Pr F) : Pr F :=
  .op (.load arg1 (Rect.unit (s := S100x3840) ![0, o] S100x128.size (logit_inb ho)).toLoadRect
    (View.loadsAt_vmem h_S100x128)) fun x =>
  .op (.load arg2 (Rect.unit (s := S1x3840) ![0, o] S1x128.size (label_inb ho)).toLoadRect
    (View.loadsAt_vmem h_S1x128)) fun l =>
  bins arg4 (soft x) (gap g (BitVec.ofNat 32 o) x l) 14 0 rfl K

/-- The strips at offsets `o, o + 128, …`, `n` of them. -/
def strips (g : BitVec 32) : (n o : Nat) → (o + 128 * n ≤ 3840) → Pr F → Pr F
  | 0, _, _, K => K
  | n + 1, o, h, K => strip arg1 arg2 arg4 g o (by omega) (strips g n (o + 128) (by omega) K)

/-- Clear the accumulators and continue. -/
def clear (K : Pr F) : Pr F :=
  .op (.load arg4 (Rect.unit (s := S15x100x128) ![0, 0, 0] S15x100x128.size inb_S15x100x128_S15x100x128_0_0_0).toLoadRect
    (View.loadsAt_vmem h_S15x100x128)) fun _ =>
  .op (.store arg4 (Rect.unit (s := S15x100x128) ![0, 0, 0] S15x100x128.size inb_S15x100x128_S15x100x128_0_0_0)
    cleared Finset.univ (View.stores_vmem_bits_univ h_S15x100x128 rfl) (.inl rfl)) fun _ => K

/-- Store the result. -/
def finish : Pr F :=
  .op (.load arg4 (Rect.unit (s := S15x100x128) ![0, 0, 0] S15x100x128.size inb_S15x100x128_S15x100x128_0_0_0).toLoadRect
    (View.loadsAt_vmem h_S15x100x128)) fun A =>
  .op (.load arg3 (Rect.unit (s := S1x1) ![0, 0] S1x1.size inb_S1x1_S1x1_0_0).toLoadRect
    (View.loadsAt_vmem h_S1x1)) fun _ =>
  .op (.store arg3 (Rect.unit (s := S1x1) ![0, 0] S1x1.size inb_S1x1_S1x1_0_0) (result A) Finset.univ
    (View.stores_vmem_bits_univ h_S1x1 rfl) (.inl rfl)) fun _ => .ret ⟨⟩

/-- The end of the body: the result is stored at the last grid point only. -/
def ending (i : grid0.Coords) : Pr F :=
  if k0_h2 : k0_cond2 i = 1#1 then finish arg3 arg4 else .ret ⟨⟩

end Cert.KernelIdeal.Body
-- ==== Proof.KernelIdeal.Triple.lean ====
/- What one grid point does: every strip adds its signed gaps to the accumulators, plane by plane. -/
module

public import proofs.«01_k».proof.Proof.KernelIdeal.Shape
public import proofs.«01_k».proof.Proof.Gen.KernelIdeal.Launch
public import proofs.«01_k».proof.Proof.Access

@[expose] public section

set_option maxRecDepth 16384

noncomputable section

namespace Cert.KernelIdeal.Body

open Idealize.ShloMosaic Idealize.ShloMosaic.TcCoe Idealize.SL Idealize.SL.RA Idealize.SL.Sem Idealize.SL.ProofMode
open Idealize.SL.BI (sProp)
open scoped Idealize.SL.BI
open Idealize.SL.BI.BIBase Idealize.SL.BI.Laws
open Cert.KernelIdeal Cert.KernelIdeal.Gen Facts₀ Facts

variable {F : FTy → Type} [FloatOps F] [Named F]

local notation "𝕄" => MT nD τ sig Unit (Elt F) ℕ (UR sig nD τ) ℕ

/-! ## The accumulators after a strip -/

/-- Bin `k`'s plane of the accumulators. -/
def plane (A : S15x100x128.Idx → F .f32) (k : Nat) (hk : k < 15) : Vec F S1x100x128 .f32 :=
  VecWindow.window (α := F .f32) A ![k, 0, 0] S1x100x128.size (plane_inb hk)

/-- The new plane of bin `k`. -/
def newPlane (s q : FVec F S100x128 .f32) (A : S15x100x128.Idx → F .f32) (k : Nat) (hk : k < 15) : FVec F S1x100x128 .f32 :=
  if k = 14 then all q (plane A k hk) else below (edge k) s q (plane A k hk) (plane A k hk)

/-- The accumulators with the first `k` planes updated. -/
def upTo (s q : FVec F S100x128 .f32) (A : S15x100x128.Idx → F .f32) (k : Nat) : S15x100x128.Idx → F .f32 := fun y =>
  if (y 0).val < k then
    newPlane s q A (y 0).val (y 0).isLt (fun a => match a with | ⟨0, _⟩ => (0 : Fin 1) | ⟨1, _⟩ => y 1 | ⟨2, _⟩ => y 2)
  else A y

theorem upTo_zero (s q : FVec F S100x128 .f32) (A : S15x100x128.Idx → F .f32) : upTo s q A 0 = A :=
  funext fun y => if_neg (Nat.not_lt_zero _)

/-- A plane not yet updated is the old one. -/
theorem plane_upTo (s q : FVec F S100x128 .f32) (A : S15x100x128.Idx → F .f32) (k : Nat) (hk : k < 15) :
    plane (upTo s q A k) k hk = plane A k hk := by
  funext x
  show (if k + 1 * (x 0).val < k then _ else _) = _
  exact if_neg (by omega)

/-- Storing bin `k`'s new plane updates one plane more. -/
theorem put_upTo (s q : FVec F S100x128 .f32) (A : S15x100x128.Idx → F .f32) (k : Nat) (hk : k < 15) :
    VecWindow.put (α := F .f32) (upTo s q A k) ![k, 0, 0] S1x100x128.size (newPlane s q A k hk) = upTo s q A (k + 1) := by
  funext y
  unfold VecWindow.put
  have h0 : (y 0).val < 15 := (y 0).isLt
  by_cases h : (y 0).val = k
  · have hm : ∀ a, (![k, 0, 0] : Fin 3 → Nat) a ≤ (y a).val ∧ (y a).val < (![k, 0, 0] : Fin 3 → Nat) a + S1x100x128.size a := by
      intro a; fin_cases a
      · exact ⟨Nat.le_of_eq h.symm, by show (y 0).val < k + 1; omega⟩
      · exact ⟨Nat.zero_le _, by show (y 1).val < 0 + 100; rw [Nat.zero_add]; exact (y 1).isLt⟩
      · exact ⟨Nat.zero_le _, by show (y 2).val < 0 + 128; rw [Nat.zero_add]; exact (y 2).isLt⟩
    rw [dif_pos hm]
    subst h
    unfold upTo
    rw [if_pos (Nat.lt_succ_self _)]
    refine congrArg _ (funext fun a => Fin.ext ?_)
    fin_cases a
    · exact Nat.sub_self _
    · exact Nat.sub_zero _
    · exact Nat.sub_zero _
  · have hm : ¬ ∀ a, (![k, 0, 0] : Fin 3 → Nat) a ≤ (y a).val ∧ (y a).val < (![k, 0, 0] : Fin 3 → Nat) a + S1x100x128.size a := by
      intro hm
      have h1 : k ≤ (y 0).val := (hm 0).1
      have h2 : (y 0).val < k + 1 := (hm 0).2
      omega
    rw [dif_neg hm]
    unfold upTo
    by_cases h1 : (y 0).val < k
    · rw [if_pos h1, if_pos (by omega)]
    · rw [if_neg h1, if_neg (by omega)]

/-- The logits a strip loads. -/
def logits (X : S100x3840.Idx → F .f32) (o : Nat) (ho : o + 128 ≤ 3840) : Vec F S100x128 .f32 :=
  VecWindow.window (α := F .f32) X ![0, o] S100x128.size (logit_inb ho)

/-- The labels a strip loads. -/
def labels (L : S1x3840.Idx → BitVec 32) (o : Nat) (ho : o + 128 ≤ 3840) : Vec F S1x128 .i32 :=
  VecWindow.window (α := BitVec 32) L ![0, o] S1x128.size (label_inb ho)

/-- The accumulators after the strip at `o`. -/
def afterStrip (g : BitVec 32) (X : S100x3840.Idx → F .f32) (L : S1x3840.Idx → BitVec 32) (o : Nat) (ho : o + 128 ≤ 3840)
    (A : S15x100x128.Idx → F .f32) : S15x100x128.Idx → F .f32 :=
  upTo (soft (logits X o ho)) (gap g (BitVec.ofNat 32 o) (logits X o ho) (labels (F := F) L o ho)) A 15

/-- The accumulators after `n` strips from `o` on. -/
def afterStrips (g : BitVec 32) (X : S100x3840.Idx → F .f32) (L : S1x3840.Idx → BitVec 32) :
    (n o : Nat) → (o + 128 * n ≤ 3840) → (S15x100x128.Idx → F .f32) → S15x100x128.Idx → F .f32
  | 0, _, _, A => A
  | n + 1, o, h, A => afterStrips g X L n (o + 128) (by omega) (afterStrip g X L o (by omega) A)

/-- A payload of the whole shape put at offset zero is the contents. -/
theorem put_whole {s : Shape} {α : Type} (X : s.Idx → α) (off : Fin s.rank → ℕ) (h : ∀ a, off a = 0) (w : s.Idx → α) :
    VecWindow.put X off s.size w = w := by
  funext y
  unfold VecWindow.put
  rw [dif_pos fun a => ⟨by rw [h a]; exact Nat.zero_le _, by rw [h a, Nat.zero_add]; exact (y a).isLt⟩]
  refine congrArg w (funext fun a => Fin.ext ?_)
  show (y a).val - off a = (y a).val
  rw [h a, Nat.sub_zero]

/-- The window of the whole shape at offset zero is the contents. -/
theorem window_whole {s : Shape} {α : Type} (X : s.Idx → α) (off : Fin s.rank → ℕ) (h : ∀ a, off a = 0)
    (inb : ∀ a, off a + s.size a ≤ s.size a) : VecWindow.window X off s.size inb = X := by
  funext y
  refine congrArg X (funext fun a => Fin.ext ?_)
  show off a + 1 * (y a).val = (y a).val
  rw [h a]; omega

theorem zero3 : ∀ a, (![0, 0, 0] : Fin 3 → ℕ) a = 0 := by decide
theorem zero2 : ∀ a, (![0, 0] : Fin 2 → ℕ) a = 0 := by decide

/-! ## The triples -/

variable (𝒱 : Variants) (c : Dev nD) (E : Set ℕ)
variable (arg1 : Memref sig .tc .vmem S100x3840 .f32) (arg2 : Memref sig .tc .vmem S1x3840 .i32)
  (arg3 : Memref sig .tc .vmem S1x1 .f32) (arg4 : Memref sig .tc .vmem S15x100x128 .f32)

/-- One bin with an upper edge: its plane is updated. -/
theorem bin_sound (Q : PUnit → sProp 𝕄) (s q : FVec F S100x128 .f32) (A : S15x100x128.Idx → F .f32) (k : Nat) (hk : k < 14) (K : Pr F) :
    (owns (c : Thread nD τ) arg4 fullShare (upTo s q A k) : sProp 𝕄)
      ⊢ iprop((owns (c : Thread nD τ) arg4 fullShare (upTo s q A (k + 1)) -∗ wp frame (wpE (defs₀ (F := F)) 𝒱 c none) E K Q)
        -∗ wp frame (wpE (defs₀ (F := F)) 𝒱 c none) E (bin arg4 k (by omega) (edge k) s q K) Q) := by
  iintro H Hk
  unfold bin readPlane writePlane
  iapply (Access.load 𝒱 (c : Thread nD τ) E arg4 (plane_inb (by omega)) Q) $$ H
  iintro H
  iapply (Access.load 𝒱 (c : Thread nD τ) E arg4 (plane_inb (by omega)) Q) $$ H
  iintro H
  iapply (Access.load 𝒱 (c : Thread nD τ) E arg4 (plane_inb (by omega)) Q) $$ H
  iintro H
  iapply (Access.store 𝒱 (c : Thread nD τ) E arg4 (plane_inb (by omega)) Q) $$ H
  have h := put_upTo s q A k (by omega)
  rw [newPlane, if_neg (by omega), ← plane_upTo s q A k (by omega)] at h
  iintro H
  iapply Hk
  rw [← h]
  iexact H

/-- The last bin: its plane is updated. -/
theorem lastBin_sound (Q : PUnit → sProp 𝕄) (s q : FVec F S100x128 .f32) (A : S15x100x128.Idx → F .f32) (K : Pr F) :
    (owns (c : Thread nD τ) arg4 fullShare (upTo s q A 14) : sProp 𝕄)
      ⊢ iprop((owns (c : Thread nD τ) arg4 fullShare (upTo s q A 15) -∗ wp frame (wpE (defs₀ (F := F)) 𝒱 c none) E K Q)
        -∗ wp frame (wpE (defs₀ (F := F)) 𝒱 c none) E (lastBin arg4 q K) Q) := by
  iintro H Hk
  unfold lastBin readPlane writePlane
  iapply (Access.load 𝒱 (c : Thread nD τ) E arg4 (plane_inb (by omega)) Q) $$ H
  iintro H
  iapply (Access.load 𝒱 (c : Thread nD τ) E arg4 (plane_inb (by omega)) Q) $$ H
  iintro H
  iapply (Access.store 𝒱 (c : Thread nD τ) E arg4 (plane_inb (by omega)) Q) $$ H
  have h := put_upTo s q A 14 (by omega)
  rw [newPlane, if_pos rfl, ← plane_upTo s q A 14 (by omega)] at h
  iintro H
  iapply Hk
  rw [← h]
  iexact H

/-- The bins from `k` on: their planes are updated. -/
theorem bins_sound (Q : PUnit → sProp 𝕄) (s q : FVec F S100x128 .f32) (A : S15x100x128.Idx → F .f32) (K : Pr F) :
    ∀ (n k : Nat) (h : k + n = 14), (owns (c : Thread nD τ) arg4 fullShare (upTo s q A k) : sProp 𝕄)
      ⊢ iprop((owns (c : Thread nD τ) arg4 fullShare (upTo s q A 15) -∗ wp frame (wpE (defs₀ (F := F)) 𝒱 c none) E K Q)
        -∗ wp frame (wpE (defs₀ (F := F)) 𝒱 c none) E (bins arg4 s q n k h K) Q)
  | 0, k, h => by
    obtain rfl : k = 14 := h
    exact lastBin_sound 𝒱 c E arg4 Q s q A K
  | n + 1, k, h => by
    iintro H Hk
    iapply (bin_sound 𝒱 c E arg4 Q s q A k (by omega) _) $$ H
    iintro H
    iapply (bins_sound Q s q A K n (k + 1) _) $$ H
    iexact Hk

/-- One strip: the accumulators take its signed gaps. -/
theorem strip_sound (Q : PUnit → sProp 𝕄) (g : BitVec 32) (X : S100x3840.Idx → F .f32) (L : S1x3840.Idx → BitVec 32)
    (A : S15x100x128.Idx → F .f32) (o : Nat) (ho : o + 128 ≤ 3840) (K : Pr F) :
    iprop(owns (c : Thread nD τ) arg1 fullShare X ∗ owns (c : Thread nD τ) arg2 fullShare L
        ∗ (owns (c : Thread nD τ) arg4 fullShare A : sProp 𝕄))
      ⊢ iprop((iprop(owns (c : Thread nD τ) arg1 fullShare X ∗ owns (c : Thread nD τ) arg2 fullShare L
            ∗ owns (c : Thread nD τ) arg4 fullShare (afterStrip g X L o ho A))
          -∗ wp frame (wpE (defs₀ (F := F)) 𝒱 c none) E K Q)
        -∗ wp frame (wpE (defs₀ (F := F)) 𝒱 c none) E (strip arg1 arg2 arg4 g o ho K) Q) := by
  iintro ⟨H1, H2, H4⟩ Hk
  unfold strip
  iapply (Access.load 𝒱 (c : Thread nD τ) E arg1 (logit_inb ho) Q) $$ H1
  iintro H1
  iapply (Access.load 𝒱 (c : Thread nD τ) E arg2 (label_inb ho) Q) $$ H2
  iintro H2
  have hb := bins_sound 𝒱 c E arg4 Q (soft (logits X o ho))
    (gap g (BitVec.ofNat 32 o) (logits X o ho) (labels (F := F) L o ho)) A K 14 0 rfl
  rw [upTo_zero] at hb
  iapply hb $$ H4
  iintro H4
  iapply Hk
  isplitl [H1]; · iexact H1
  isplitl [H2]; · iexact H2
  iexact H4

/-- The strips from `o` on. -/
theorem strips_sound (Q : PUnit → sProp 𝕄) (g : BitVec 32) (X : S100x3840.Idx → F .f32) (L : S1x3840.Idx → BitVec 32) (K : Pr F) :
    ∀ (n o : Nat) (h : o + 128 * n ≤ 3840) (A : S15x100x128.Idx → F .f32),
    iprop(owns (c : Thread nD τ) arg1 fullShare X ∗ owns (c : Thread nD τ) arg2 fullShare L
        ∗ (owns (c : Thread nD τ) arg4 fullShare A : sProp 𝕄))
      ⊢ iprop((iprop(owns (c : Thread nD τ) arg1 fullShare X ∗ owns (c : Thread nD τ) arg2 fullShare L
            ∗ owns (c : Thread nD τ) arg4 fullShare (afterStrips g X L n o h A))
          -∗ wp frame (wpE (defs₀ (F := F)) 𝒱 c none) E K Q)
        -∗ wp frame (wpE (defs₀ (F := F)) 𝒱 c none) E (strips arg1 arg2 arg4 g n o h K) Q)
  | 0, o, h, A => by
    iintro H Hk
    iapply Hk
    iexact H
  | n + 1, o, h, A => by
    iintro H Hk
    iapply (strip_sound 𝒱 c E arg1 arg2 arg4 Q g X L A o (by omega) _) $$ H
    iintro H
    iapply (strips_sound Q g X L K n (o + 128) _ _) $$ H
    iexact Hk

/-- Clearing leaves the accumulators cleared. -/
theorem clear_sound (Q : PUnit → sProp 𝕄) (A : S15x100x128.Idx → F .f32) (K : Pr F) :
    (owns (c : Thread nD τ) arg4 fullShare A : sProp 𝕄)
      ⊢ iprop((owns (c : Thread nD τ) arg4 fullShare (cleared (F := F)) -∗ wp frame (wpE (defs₀ (F := F)) 𝒱 c none) E K Q)
        -∗ wp frame (wpE (defs₀ (F := F)) 𝒱 c none) E (clear arg4 K) Q) := by
  iintro H Hk
  unfold clear
  iapply (Access.load 𝒱 (c : Thread nD τ) E arg4 Facts₀.inb_S15x100x128_S15x100x128_0_0_0 Q) $$ H
  iintro H
  iapply (Access.store 𝒱 (c : Thread nD τ) E arg4 Facts₀.inb_S15x100x128_S15x100x128_0_0_0 Q) $$ H
  iintro H
  iapply Hk
  rw [put_whole (α := F .f32) A ![0, 0, 0] zero3]
  iexact H

/-- The ending: at the last grid point the output takes the result, at any other nothing changes. -/
theorem ending_sound (Q : PUnit → sProp 𝕄) (i : grid0.Coords) (A : S15x100x128.Idx → F .f32) (O : S1x1.Idx → F .f32) :
    iprop(owns (c : Thread nD τ) arg3 fullShare O ∗ (owns (c : Thread nD τ) arg4 fullShare A : sProp 𝕄))
      ⊢ iprop((iprop(owns (c : Thread nD τ) arg3 fullShare (if k0_cond2 i = 1#1 then result A else O)
            ∗ owns (c : Thread nD τ) arg4 fullShare A) -∗ Q ⟨⟩)
        -∗ wp frame (wpE (defs₀ (F := F)) 𝒱 c none) E (ending arg3 arg4 i) Q) := by
  iintro ⟨H3, H4⟩ Hk
  unfold ending
  by_cases h : k0_cond2 i = 1#1
  · rw [dif_pos h, if_pos h]
    unfold finish
    iapply (Access.load 𝒱 (c : Thread nD τ) E arg4 Facts₀.inb_S15x100x128_S15x100x128_0_0_0 Q) $$ H4
    iintro H4
    iapply (Access.load 𝒱 (c : Thread nD τ) E arg3 Facts₀.inb_S1x1_S1x1_0_0 Q) $$ H3
    iintro H3
    iapply (Access.store 𝒱 (c : Thread nD τ) E arg3 Facts₀.inb_S1x1_S1x1_0_0 Q) $$ H3
    iintro H3
    rw [put_whole (α := F .f32) O ![0, 0] zero2, window_whole (α := F .f32) A ![0, 0, 0] zero3]
    iapply (le_wp_ret _ _ _ _ Q)
    iapply Hk
    isplitl [H3]; · iexact H3
    iexact H4
  · rw [dif_neg h, if_neg h]
    iapply (le_wp_ret _ _ _ _ Q)
    iapply Hk
    isplitl [H3]; · iexact H3
    iexact H4

end Cert.KernelIdeal.Body
-- ==== Proof.KernelIdeal.Printed.lean ====
/- The printed body is the sequence of the strips. -/
module

public import proofs.«01_k».proof.Proof.KernelIdeal.Shape

@[expose] public section

set_option maxRecDepth 5000000

noncomputable section

namespace Cert.KernelIdeal.Body

open Idealize.ShloMosaic Idealize.SL.Sem
open Cert.KernelIdeal Facts₀ Facts

variable {F : FTy → Type} [FloatOps F] [Named F]

/-- The word the body tests to clear the accumulators. -/
def cond1 (i : grid0.Coords) : BitVec 1 :=
  Scalar.cmpi .ne (Scalar.extui (Scalar.cmpi .eq (BitVec.ofNat 32 (i 0).val) 0#32) : BitVec 32) 0#32

set_option maxHeartbeats 1000000 in
/-- The printed body: clear at the first grid point, thirty strips, and the ending. -/
theorem printed (i : grid0.Coords) (arg1 : Memref sig .tc .vmem S100x3840 .f32) (harg1 : arg1.IsWhole)
    (arg2 : Memref sig .tc .vmem S1x3840 .i32) (harg2 : arg2.IsWhole) (arg3 : Memref sig .tc .vmem S1x1 .f32)
    (harg3 : arg3.IsWhole) (arg4 : Memref sig .tc .vmem S15x100x128 .f32) (harg4 : arg4.IsWhole) :
    cc0__ece_kernel (F := F) i arg1 harg1 arg2 harg2 arg3 harg3 arg4 harg4
      = if cond1 i = 1#1 then
          clear arg4 (strips arg1 arg2 arg4 (BitVec.ofNat 32 (i 0).val) 30 0 (by decide) (ending arg3 arg4 i))
        else strips arg1 arg2 arg4 (BitVec.ofNat 32 (i 0).val) 30 0 (by decide) (ending arg3 arg4 i) := by
  unfold cc0__ece_kernel k0_part182 k0_part1
  by_cases h : cond1 i = 1#1
  all_goals
    have h' := h
    unfold cond1 at h'
    simp only [h, h', dif_pos, dif_neg, not_false_eq_true]
    dsimp only [
      Prog.bind_op, ↓Prog.bind_op, Prog.bind_ret, ↓Prog.bind_ret, Prog.pure_eq_ret, Prog.lift, k0_part2,
      k0_part3, k0_part4, k0_part5, k0_part6, k0_part7, k0_part8, k0_part9, k0_part10, k0_part11, k0_part12,
      k0_part13, k0_part14, k0_part15, k0_part16, k0_part17, k0_part18, k0_part19, k0_part20, k0_part21,
      k0_part22, k0_part23, k0_part24, k0_part25, k0_part26, k0_part27, k0_part28, k0_part29, k0_part30,
      k0_part31, k0_part32, k0_part33, k0_part34, k0_part35, k0_part36, k0_part37, k0_part38, k0_part39,
      k0_part40, k0_part41, k0_part42, k0_part43, k0_part44, k0_part45, k0_part46, k0_part47, k0_part48,
      k0_part49, k0_part50, k0_part51, k0_part52, k0_part53, k0_part54, k0_part55, k0_part56, k0_part57,
      k0_part58, k0_part59, k0_part60, k0_part61, k0_part62, k0_part63, k0_part64, k0_part65, k0_part66,
      k0_part67, k0_part68, k0_part69, k0_part70, k0_part71, k0_part72, k0_part73, k0_part74, k0_part75,
      k0_part76, k0_part77, k0_part78, k0_part79, k0_part80, k0_part81, k0_part82, k0_part83, k0_part84,
      k0_part85, k0_part86, k0_part87, k0_part88, k0_part89, k0_part90, k0_part91, k0_part92, k0_part93,
      k0_part94, k0_part95, k0_part96, k0_part97, k0_part98, k0_part99, k0_part100, k0_part101, k0_part102,
      k0_part103, k0_part104, k0_part105, k0_part106, k0_part107, k0_part108, k0_part109, k0_part110,
      k0_part111, k0_part112, k0_part113, k0_part114, k0_part115, k0_part116, k0_part117, k0_part118,
      k0_part119, k0_part120, k0_part121, k0_part122, k0_part123, k0_part124, k0_part125, k0_part126,
      k0_part127, k0_part128, k0_part129, k0_part130, k0_part131, k0_part132, k0_part133, k0_part134,
      k0_part135, k0_part136, k0_part137, k0_part138, k0_part139, k0_part140, k0_part141, k0_part142,
      k0_part143, k0_part144, k0_part145, k0_part146, k0_part147, k0_part148, k0_part149, k0_part150,
      k0_part151, k0_part152, k0_part153, k0_part154, k0_part155, k0_part156, k0_part157, k0_part158,
      k0_part159, k0_part160, k0_part161, k0_part162, k0_part163, k0_part164, k0_part165, k0_part166,
      k0_part167, k0_part168, k0_part169, k0_part170, k0_part171, k0_part172, k0_part173, k0_part174,
      k0_part175, k0_part176, k0_part177, k0_part178, k0_part179, k0_part180, k0_part181, k0_part183,
      k0_part184]
    rfl

end Cert.KernelIdeal.Body
-- ==== Proof.KernelIdeal.Step.lean ====
/- What the kernel body does at one grid point. -/
module

public import proofs.«01_k».proof.Proof.KernelIdeal.Triple
public import proofs.«01_k».proof.Proof.KernelIdeal.Printed

@[expose] public section

set_option maxRecDepth 16384

noncomputable section

namespace Cert.KernelIdeal.Body

open Idealize.ShloMosaic Idealize.ShloMosaic.TcCoe Idealize.SL Idealize.SL.RA Idealize.SL.Sem Idealize.SL.ProofMode
open Idealize.SL.BI (sProp)
open scoped Idealize.SL.BI
open Idealize.SL.BI.BIBase Idealize.SL.BI.Laws
open Cert.KernelIdeal Cert.KernelIdeal.Gen Facts₀ Facts

variable {F : FTy → Type} [FloatOps F] [Named F]

local notation "𝕄" => MT nD τ sig Unit (Elt F) ℕ (UR sig nD τ) ℕ

/-- The accumulators after one grid point, from the two staged blocks and the accumulators before it. -/
def afterPoint (i : grid0.Coords) (X : S100x3840.Idx → F .f32) (L : S1x3840.Idx → BitVec 32)
    (A : S15x100x128.Idx → F .f32) : S15x100x128.Idx → F .f32 :=
  afterStrips (BitVec.ofNat 32 (i 0).val) X L 30 0 (by decide) (if cond1 i = 1#1 then cleared (F := F) else A)

variable (𝒱 : Variants) (c : Dev nD) (E : Set ℕ)
variable (arg1 : Memref sig .tc .vmem S100x3840 .f32) (harg1 : arg1.IsWhole)
  (arg2 : Memref sig .tc .vmem S1x3840 .i32) (harg2 : arg2.IsWhole)
  (arg3 : Memref sig .tc .vmem S1x1 .f32) (harg3 : arg3.IsWhole)
  (arg4 : Memref sig .tc .vmem S15x100x128 .f32) (harg4 : arg4.IsWhole)

/-- The strips and the ending, from accumulators `A`. -/
theorem tail_sound (Q : PUnit → sProp 𝕄) (i : grid0.Coords) (X : S100x3840.Idx → F .f32) (L : S1x3840.Idx → BitVec 32)
    (O : S1x1.Idx → F .f32) (A : S15x100x128.Idx → F .f32) (g : BitVec 32) (h : 0 + 128 * 30 ≤ 3840) :
    iprop(owns (c : Thread nD τ) arg1 fullShare X ∗ owns (c : Thread nD τ) arg2 fullShare L
        ∗ owns (c : Thread nD τ) arg3 fullShare O ∗ (owns (c : Thread nD τ) arg4 fullShare A : sProp 𝕄))
      ⊢ iprop((iprop(owns (c : Thread nD τ) arg1 fullShare X ∗ owns (c : Thread nD τ) arg2 fullShare L
            ∗ owns (c : Thread nD τ) arg3 fullShare (if k0_cond2 i = 1#1 then result (afterStrips g X L 30 0 h A) else O)
            ∗ owns (c : Thread nD τ) arg4 fullShare (afterStrips g X L 30 0 h A)) -∗ Q ⟨⟩)
        -∗ wp frame (wpE (defs₀ (F := F)) 𝒱 c none) E
            (strips arg1 arg2 arg4 g 30 0 h (ending arg3 arg4 i)) Q) := by
  iintro ⟨H1, H2, H3, H4⟩ Hk
  iapply (strips_sound 𝒱 c E arg1 arg2 arg4 Q g X L (ending arg3 arg4 i) 30 0 h A) $$ [H1 H2 H4]
  · isplitl [H1]; · iexact H1
    isplitl [H2]; · iexact H2
    iexact H4
  iintro ⟨H1, H2, H4⟩
  iapply (ending_sound 𝒱 c E arg3 arg4 Q i _ O) $$ [H3 H4]
  · isplitl [H3]; · iexact H3
    iexact H4
  iintro ⟨H3, H4⟩
  iapply Hk
  isplitl [H1]; · iexact H1
  isplitl [H2]; · iexact H2
  isplitl [H3]; · iexact H3
  iexact H4

/-- One grid point: the accumulators advance by the block's strips, and at the last point the output takes the
    result; the staged blocks stay. -/
theorem body_sound (Q : PUnit → sProp 𝕄) (i : grid0.Coords) (X : S100x3840.Idx → F .f32) (L : S1x3840.Idx → BitVec 32)
    (O : S1x1.Idx → F .f32) (A : S15x100x128.Idx → F .f32) :
    iprop(owns (c : Thread nD τ) arg1 fullShare X ∗ owns (c : Thread nD τ) arg2 fullShare L
        ∗ owns (c : Thread nD τ) arg3 fullShare O ∗ (owns (c : Thread nD τ) arg4 fullShare A : sProp 𝕄))
      ⊢ iprop((iprop(owns (c : Thread nD τ) arg1 fullShare X ∗ owns (c : Thread nD τ) arg2 fullShare L
            ∗ owns (c : Thread nD τ) arg3 fullShare (if k0_cond2 i = 1#1 then result (afterPoint i X L A) else O)
            ∗ owns (c : Thread nD τ) arg4 fullShare (afterPoint i X L A)) -∗ Q ⟨⟩)
        -∗ wp frame (wpE (defs₀ (F := F)) 𝒱 c none) E
            (cc0__ece_kernel i arg1 harg1 arg2 harg2 arg3 harg3 arg4 harg4) Q) := by
  rw [printed]
  unfold afterPoint
  by_cases h : cond1 i = 1#1
  · rw [if_pos h, if_pos h]
    iintro ⟨H1, H2, H3, H4⟩ Hk
    iapply (clear_sound 𝒱 c E arg4 Q A _) $$ H4
    iintro H4
    iapply (tail_sound 𝒱 c E arg1 arg2 arg3 arg4 Q i X L O _ _ _) $$ [H1 H2 H3 H4]
    · isplitl [H1]; · iexact H1
      isplitl [H2]; · iexact H2
      isplitl [H3]; · iexact H3
      iexact H4
    iexact Hk
  · rw [if_neg h, if_neg h]
    iintro H Hk
    iapply (tail_sound 𝒱 c E arg1 arg2 arg3 arg4 Q i X L O _ _ _) $$ H
    iexact Hk

end Cert.KernelIdeal.Body
-- ==== Proof.KernelIdeal.Cells.lean ====
/- What the accumulators hold, in closed form, over the extended reals. -/
module

public import proofs.«01_k».proof.Proof.KernelIdeal.Step
public import Idealize.ShloMosaic.Lib.Pointwise
public import Idealize.ShloMosaic.PureOps.Ideal.Laws

@[expose] public section

set_option maxRecDepth 16384

noncomputable section

namespace Cert.KernelIdeal.Body

open Idealize.ShloMosaic Cert.KernelIdeal Cert.KernelIdeal.Gen

/-- The confidence of class `c` in a row of logits, as the kernel computes it. -/
def conf (v : Fin 100 → EReal) (c : Fin 100) : EReal :=
  Ideal.exp (v c - Finset.fold max (Ideal.ofBits .f32 0xFF800000#32) (fun k => v k) Finset.univ)
    * Ideal.div 1 (∑ k, Ideal.exp (v k - Finset.fold max (Ideal.ofBits .f32 0xFF800000#32) (fun j => v j) Finset.univ))

/-- The signed gap of class `c` in a row: the confidence, less one at the label. -/
def signed (v : Fin 100 → EReal) (lab : BitVec 32) (c : Fin 100) : EReal :=
  if BitVec.ofNat 32 c.val = lab then conf v c - 1 else conf v c

/-- What a row adds to bin `k`'s accumulator of class `c`. -/
def addend (k : Nat) (v : Fin 100 → EReal) (lab : BitVec 32) (c : Fin 100) : EReal :=
  if k = 14 ∨ conf v c ≤ edge (F := Ideal) k then signed v lab c else 0

theorem cmpi_slt_one (a b : BitVec 32) : (IntOp.cmpi .slt a b = 1#1) ↔ a.slt b = true := by
  unfold IntOp.cmpi; cases h : a.slt b <;> simp

theorem cmpi_eq_one (a b : BitVec 32) : (IntOp.cmpi .eq a b = 1#1) ↔ a = b := by
  unfold IntOp.cmpi
  by_cases h : a = b
  · subst h; simp
  · rw [show (a == b) = false from by simpa using h]
    exact iff_of_false (show ¬ BitVec.ofBool false = 1#1 by decide) h

/-- A small word, read signed. -/
theorem toInt_small (n : Nat) (h : n < 2 ^ 31) : (BitVec.ofNat 32 n).toInt = (n : Int) := by
  rw [BitVec.toInt_eq_toNat_cond, BitVec.toNat_ofNat]
  split <;> omega

/-- The lane test: the column lies inside the batch. -/
theorem live_iff (t o l : Nat) (ht : t < 53) (ho : o + 128 ≤ 3840) (hl : l < 128) :
    (BitVec.ofNat 32 l).slt (Scalar.subi (Scalar.subi (200000#32) (Scalar.muli (BitVec.ofNat 32 t) 3840#32)) (BitVec.ofNat 32 o)) = true
      ↔ t * 3840 + o + l < 200000 := by
  have e : (Scalar.subi (Scalar.subi (200000#32) (Scalar.muli (BitVec.ofNat 32 t) 3840#32)) (BitVec.ofNat 32 o)).toInt
      = (200000 - t * 3840 - o : Int) := by
    show ((200000#32 - BitVec.ofNat 32 t * 3840#32) - BitVec.ofNat 32 o).toInt = _
    rw [BitVec.toInt_sub, BitVec.toInt_sub, BitVec.toInt_mul, toInt_small t (by omega), toInt_small o (by omega),
      toInt_small 200000 (by decide), toInt_small 3840 (by decide)]
    simp only [Int.bmod_def]
    omega
  rw [BitVec.slt_iff_toInt_lt, toInt_small l (by omega), e]
  omega

/-- What the strip at column `o` of block `t` adds to a cell, from the staged blocks. -/
def stripCell (t : Nat) (X : S100x3840.Idx → EReal) (L : S1x3840.Idx → BitVec 32) (o : Nat) (ho : o + 128 ≤ 3840)
    (k : Fin 15) (c : Fin 100) (l : Fin 128) : EReal :=
  if t * 3840 + o + l.val < 200000 then
    addend k.val (fun j => X (ix2 j ⟨o + l.val, by omega⟩)) (L (ix2 0 ⟨o + l.val, by omega⟩)) c
  else 0

theorem logits_apply (X : S100x3840.Idx → EReal) (o : Nat) (ho : o + 128 ≤ 3840) (c : Fin 100) (l : Fin 128) :
    logits (F := Ideal) X o ho (ix2 c l) = X (ix2 c ⟨o + l.val, by omega⟩) := by
  unfold logits VecWindow.window
  refine congrArg X (funext fun a => Fin.ext ?_)
  fin_cases a
  · show 0 + 1 * c.val = c.val; omega
  · show o + 1 * l.val = o + l.val; omega

theorem labels_apply (L : S1x3840.Idx → BitVec 32) (o : Nat) (ho : o + 128 ≤ 3840) (l : Fin 128) :
    labels (F := Ideal) L o ho (ix2 0 l) = L (ix2 0 ⟨o + l.val, by omega⟩) := by
  unfold labels VecWindow.window
  refine congrArg L (funext fun a => Fin.ext ?_)
  fin_cases a
  · rfl
  · show o + 1 * l.val = o + l.val; omega

theorem soft_apply (x : Vec Ideal S100x128 .f32) (c : Fin 100) (l : Fin 128) :
    soft x (ix2 c l) = conf (fun j => x (ix2 j l)) c := by
  pointwise [soft, expo]; rfl

theorem gap_apply (t o : Nat) (ht : t < 53) (ho : o + 128 ≤ 3840) (x : Vec Ideal S100x128 .f32) (L : Vec Ideal S1x128 .i32)
    (c : Fin 100) (l : Fin 128) :
    gap (BitVec.ofNat 32 t) (BitVec.ofNat 32 o) x L (ix2 c l)
      = if t * 3840 + o + l.val < 200000 then signed (fun j => x (ix2 j l)) (L (ix2 0 l)) c else 0 := by
  have hl : live (BitVec.ofNat 32 t) (BitVec.ofNat 32 o) (ix2 c l) = 1#1 ↔ t * 3840 + o + l.val < 200000 := by
    pointwise [live]
    rw [cmpi_slt_one, live_iff t o l.val ht ho l.isLt]
  have hh : hot (F := Ideal) L (ix2 c l) = 1#1 ↔ BitVec.ofNat 32 c.val = L (ix2 0 l) := by
    pointwise [hot]
    rw [cmpi_eq_one]
  pointwise [gap]
  rw [soft_apply]
  unfold Scalar.select signed
  exact if_congr hl (if_congr hh rfl rfl) rfl

/-- One strip adds its cells. -/
theorem afterStrip_apply (t o : Nat) (ht : t < 53) (ho : o + 128 ≤ 3840) (X : S100x3840.Idx → EReal) (L : S1x3840.Idx → BitVec 32)
    (A : S15x100x128.Idx → EReal) (k : Fin 15) (c : Fin 100) (l : Fin 128) :
    afterStrip (F := Ideal) (BitVec.ofNat 32 t) X L o ho A (ix3 k c l)
      = A (ix3 k c l) + stripCell t X L o ho k c l := by
  have hp : plane (F := Ideal) A k.val k.isLt (ix3 0 c l) = A (ix3 k c l) := by
    unfold plane VecWindow.window
    refine congrArg A (funext fun a => Fin.ext ?_)
    fin_cases a
    · show k.val + 1 * 0 = k.val; omega
    · show 0 + 1 * c.val = c.val; omega
    · show 0 + 1 * l.val = l.val; omega
  have hu : ∀ s q : FVec Ideal S100x128 .f32, upTo (F := Ideal) s q A 15 (ix3 k c l) = newPlane (F := Ideal) s q A k.val k.isLt (ix3 0 c l) := by
    intro s q
    unfold upTo
    rw [if_pos (show ((ix3 k c l : S15x100x128.Idx) 0).val < 15 from k.isLt)]
    refine congrArg _ (funext fun a => ?_)
    fin_cases a <;> rfl
  unfold afterStrip
  rw [hu]
  have hx : (fun j => logits (F := Ideal) X o ho (ix2 j l)) = fun j => X (ix2 j ⟨o + l.val, by omega⟩) :=
    funext fun j => logits_apply X o ho j l
  unfold newPlane stripCell addend
  by_cases hk : k.val = 14
  · rw [if_pos hk]
    pointwise [all]
    rw [hp, gap_apply t o ht ho, labels_apply, hx]
    simp only [hk, true_or, if_true]
  · rw [if_neg hk]
    pointwise [below]
    rw [hp, gap_apply t o ht ho, labels_apply, soft_apply, hx]
    simp only [hk, false_or]
    split <;> split <;> simp_all

/-- `n` strips from column `o` on add their cells. -/
theorem afterStrips_apply (t : Nat) (ht : t < 53) (X : S100x3840.Idx → EReal) (L : S1x3840.Idx → BitVec 32)
    (f : Fin 15 → Fin 100 → Fin 128 → Nat → EReal) (k : Fin 15) (c : Fin 100) (l : Fin 128)
    (hf : ∀ o (ho : o + 128 ≤ 3840), stripCell t X L o ho k c l = f k c l o) :
    ∀ (n o : Nat) (h : o + 128 * n ≤ 3840) (A : S15x100x128.Idx → EReal),
      afterStrips (F := Ideal) (BitVec.ofNat 32 t) X L n o h A (ix3 k c l)
        = A (ix3 k c l) + ∑ j ∈ Finset.range n, f k c l (o + 128 * j)
  | 0, o, h, A => by simp [afterStrips]
  | n + 1, o, h, A => by
    rw [afterStrips, afterStrips_apply t ht X L f k c l hf n (o + 128) (by omega), afterStrip_apply t o ht, hf,
      Finset.sum_range_succ', add_assoc]
    refine congrArg _ ?_
    rw [add_comm]
    have e : ∀ j ∈ Finset.range n, f k c l (o + 128 + 128 * j) = f k c l (o + 128 * (j + 1)) := fun j _ => congrArg _ (by omega)
    rw [Finset.sum_congr rfl e, Nat.mul_zero, Nat.add_zero]

/-- What row `n` of the batch adds to a cell; nothing past the batch. -/
def cell (x : S200000x100.Idx → EReal) (lab : S200000.Idx → BitVec 32) (k : Nat) (c : Fin 100) (n : Nat) : EReal :=
  if h : n < 200000 then addend k (fun j => x (ix2 ⟨n, h⟩ j)) (lab (ix1 ⟨n, h⟩)) c else 0

/-- The accumulators after `t` grid points. -/
def acc (x : S200000x100.Idx → EReal) (lab : S200000.Idx → BitVec 32) (t : Nat) : S15x100x128.Idx → EReal := fun y =>
  ∑ b ∈ Finset.range t, ∑ j ∈ Finset.range 30, cell x lab (y 0).val (y 1) (b * 3840 + 128 * j + (y 2).val)

/-- The staged blocks of point `t` are the batch's columns of that block, as far as the batch goes. -/
def Staged (x : S200000x100.Idx → EReal) (lab : S200000.Idx → BitVec 32) (t : Nat) (X : S100x3840.Idx → EReal)
    (L : S1x3840.Idx → BitVec 32) : Prop :=
  (∀ (c : Fin 100) (q : Fin 3840) (h : t * 3840 + q.val < 200000), X (ix2 c q) = x (ix2 ⟨t * 3840 + q.val, h⟩ c))
  ∧ ∀ (q : Fin 3840) (h : t * 3840 + q.val < 200000), L (ix2 0 q) = lab (ix1 ⟨t * 3840 + q.val, h⟩)

theorem stripCell_staged {x : S200000x100.Idx → EReal} {lab : S200000.Idx → BitVec 32} {t : Nat} {X : S100x3840.Idx → EReal}
    {L : S1x3840.Idx → BitVec 32} (hs : Staged x lab t X L) (o : Nat) (ho : o + 128 ≤ 3840) (k : Fin 15) (c : Fin 100) (l : Fin 128) :
    stripCell t X L o ho k c l = cell x lab k.val c (t * 3840 + o + l.val) := by
  unfold stripCell cell
  by_cases h : t * 3840 + o + l.val < 200000
  · rw [if_pos h, dif_pos h]
    have e : (⟨t * 3840 + (o + l.val), by omega⟩ : Fin 200000) = ⟨t * 3840 + o + l.val, h⟩ := Fin.ext (by simp only; omega)
    refine congr (congr (congrArg _ (funext fun j => ?_)) ?_) rfl
    · rw [hs.1 j ⟨o + l.val, by omega⟩ (by simp only; omega)]; rw [e]
    · rw [hs.2 ⟨o + l.val, by omega⟩ (by simp only; omega)]; rw [e]
  · rw [if_neg h, dif_neg h]

theorem cleared_apply (y : S15x100x128.Idx) : cleared (F := Ideal) y = 0 := by
  pointwise [cleared]

/-- One grid point advances the accumulators by its block. -/
theorem afterPoint_acc (i : grid0.Coords) {x : S200000x100.Idx → EReal} {lab : S200000.Idx → BitVec 32}
    {X : S100x3840.Idx → EReal} {L : S1x3840.Idx → BitVec 32} (hs : Staged x lab (i 0).val X L)
    (A : S15x100x128.Idx → EReal) (hA : (if cond1 i = 1#1 then cleared (F := Ideal) else A) = acc x lab (i 0).val) :
    afterPoint (F := Ideal) i X L A = acc x lab ((i 0).val + 1) := by
  unfold afterPoint
  rw [hA]
  funext y
  obtain ⟨k, c, l, rfl⟩ : ∃ (k : Fin 15) (c : Fin 100) (l : Fin 128), y = ix3 k c l := ⟨y 0, y 1, y 2, eq_ix3 y⟩
  rw [afterStrips_apply (i 0).val (i 0).isLt X L (fun k c l o => cell x lab k.val c ((i 0).val * 3840 + o + l.val)) k c l
    (fun o ho => stripCell_staged hs o ho k c l)]
  unfold acc
  rw [Finset.sum_range_succ _ (i 0).val]
  refine congrArg (HAdd.hAdd (α := EReal) _) (Finset.sum_congr rfl fun j _ => ?_)
  show cell x lab k.val c ((i 0).val * 3840 + (0 + 128 * j) + l.val) = cell x lab k.val c ((i 0).val * 3840 + 128 * j + l.val)
  rw [Nat.zero_add]

/-- Before the first grid point the accumulators count as cleared. -/
theorem acc_zero (x : S200000x100.Idx → EReal) (lab : S200000.Idx → BitVec 32) : acc x lab 0 = cleared (F := Ideal) := by
  funext y; rw [cleared_apply]; unfold acc; rw [Finset.sum_range_zero]

end Cert.KernelIdeal.Body
-- ==== Proof.KernelIdeal.Staged.lean ====
/- What the pipeline stages at a grid point: the batch's columns of that block. -/
module

public import proofs.«01_k».proof.Proof.KernelIdeal.Cells
public import proofs.«01_k».proof.Proof.Gen.KernelIdeal.Frame
public import proofs.«01_k».proof.Defs

@[expose] public section

set_option maxRecDepth 16384

noncomputable section

namespace Cert.KernelIdeal.Body

open Idealize.ShloMosaic Idealize.ShloMosaic.TcCoe Idealize.SL Idealize.SL.Sem
open Idealize.ShloMosaic.Pipeline (Dat Cfg Window)
open Cert.KernelIdeal Cert.KernelIdeal.Gen

variable (m : (ℓ : Loc nD τ sig) → Buf (Elt Ideal) ℓ)

/-- The logits the launch starts from. -/
abbrev xs (c : Dev nD) : S200000x100.Idx → EReal := m ((c : Thread nD τ).loc main_arg0)
/-- The labels the launch starts from. -/
abbrev labs (c : Dev nD) : S200000.Idx → BitVec 32 := m ((c : Thread nD τ).loc main_arg1)

/-- The coordinate of grid point `t`. -/
theorem coord (t : Fin cfg0.N) : ((grid0.coords t) 0).val = t.val := by
  revert t; decide +kernel

theorem cond1_iff (t : Fin cfg0.N) : cond1 (grid0.coords t) = 1#1 ↔ t.val = 0 := by
  revert t; decide +kernel

theorem cond2_iff (t : Fin cfg0.N) : k0_cond2 (grid0.coords t) = 1#1 ↔ t.val = 52 := by
  revert t; decide +kernel

/-- The kernel reads the logits transposed. -/
theorem V_main_v0 (c : Dev nD) (k : Fin 100) (n : Fin 200000) : V m c main_v0 (ix2 k n) = xs m c (ix2 n k) := by
  have e : V m c main_v0 = transpose S100x200000 [1, 0] (xs m c) transposes_S200000x100_S100x200000_1_0 := by
    simp only [V, V0, hostOps0, List.flatten_cons, List.flatten_nil, List.append_nil]
    after_results
  rw [e]
  pointwise []

/-- The kernel reads the labels as one row. -/
theorem V_main_v1 (c : Dev nD) (n : Fin 200000) : V m c main_v1 (ix2 0 n) = labs m c (ix1 n) := by
  have e : V m c main_v1 = shapeCast S1x200000 (labs m c) shapeCasts_S200000_S1x200000 := by
    simp only [V, V0, hostOps0, List.flatten_cons, List.flatten_nil, List.append_nil]
    after_results; rfl
  rw [e]
  pointwise []

/-- How many columns of point `t`'s block lie inside the batch. -/
theorem cols (t : Fin cfg0.N) : win0_0.xsize (grid0.coords t) 0 = 100 ∧ win0_0.xsize (grid0.coords t) 1 = min 3840 (200000 - t.val * 3840)
    ∧ win0_1.xsize (grid0.coords t) 0 = 1 ∧ win0_1.xsize (grid0.coords t) 1 = min 3840 (200000 - t.val * 3840) := by
  revert t; decide +kernel

theorem fill_at {sig : RefSig} {G : Pipeline.Grid} (w : Window sig G) {α : Type} (i : G.Coords) (d : w.block.Idx → α)
    (g : (w.xblock i).Idx → α) (y : w.block.Idx) (h : ∀ a, (y a).val < w.xsize i a) :
    w.fill i d g y = g fun a => ⟨(y a).val, h a⟩ := by
  unfold Window.fill; rw [dif_pos ((w.moved_iff i y).mpr h)]

/-- The staged blocks are the batch's columns. -/
theorem staged (c : Dev nD) (t : Fin cfg0.N) (d0 d1) :
    Staged (xs m c) (labs m c) ((grid0.coords t) 0).val (win0_0.fill (grid0.coords t) d0 (iblk m c 0 t))
      (win0_1.fill (grid0.coords t) d1 (iblk m c 1 t)) := by
  rw [coord]
  obtain ⟨e0, e1, f0, f1⟩ := cols t
  refine ⟨fun k q h => ?_, fun q h => ?_⟩
  · rw [fill_at win0_0 (grid0.coords t) d0 _ (ix2 k q) (fun a => by
      match a with
      | ⟨0, _⟩ => exact lt_of_lt_of_eq k.isLt e0.symm
      | ⟨1, _⟩ => exact lt_of_lt_of_eq (lt_min q.isLt (by show q.val < _; omega)) e1.symm)]
    rw [← V_main_v0]
    refine congrArg (V m c main_v0) (funext fun a => Fin.ext ?_)
    match a with
    | ⟨0, _⟩ =>
      show 0 * 100 + 1 * k.val = k.val
      omega
    | ⟨1, _⟩ =>
      show (BitVec.ofNat 32 ((grid0.coords t) 0).val).toNat * 3840 + 1 * q.val = t.val * 3840 + q.val
      rw [coord, BitVec.toNat_ofNat, Nat.mod_eq_of_lt (by have := t.isLt; have h53 : cfg0.N = 53 := N_0; omega)]
      omega
  · rw [fill_at win0_1 (grid0.coords t) d1 _ (ix2 0 q) (fun a => by
      match a with
      | ⟨0, _⟩ => exact lt_of_lt_of_eq Nat.zero_lt_one f0.symm
      | ⟨1, _⟩ => exact lt_of_lt_of_eq (lt_min q.isLt (by show q.val < _; omega)) f1.symm)]
    rw [← V_main_v1]
    refine congrArg (V m c main_v1) (funext fun a => Fin.ext ?_)
    match a with
    | ⟨0, _⟩ =>
      show 0 * 1 + 1 * 0 = 0
      omega
    | ⟨1, _⟩ =>
      show (BitVec.ofNat 32 ((grid0.coords t) 0).val).toNat * 3840 + 1 * q.val = t.val * 3840 + q.val
      rw [coord, BitVec.toNat_ofNat, Nat.mod_eq_of_lt (by have := t.isLt; have h53 : cfg0.N = 53 := N_0; omega)]
      omega

end Cert.KernelIdeal.Body
-- ==== Proof.KernelIdeal.Launch.lean ====
/- The idealised kernel's launch: what the result array holds in the end. -/
module

public import proofs.«01_k».proof.Proof.KernelIdeal.Staged

@[expose] public section

set_option maxRecDepth 16384

noncomputable section

namespace Cert.KernelIdeal.Body

open Idealize.ShloMosaic Idealize.ShloMosaic.TcCoe Idealize.SL Idealize.SL.RA Idealize.SL.Sem Idealize.SL.ProofMode
open Idealize.SL.BI (sProp)
open scoped Idealize.SL.BI
open Idealize.SL.BI.BIBase Idealize.SL.BI.Laws
open Idealize.ShloMosaic.Rounds
open Idealize.ShloMosaic.Pipeline (Dat Cfg Window BodyObligationLoose cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- Before point `t` the accumulators hold the columns of the blocks before it; before the first, anything. -/
def inv (c : Dev nD) (t : Nat) : sProp 𝕄 :=
  iprop((∃ A : S15x100x128.Idx → EReal, ⌜t ≠ 0 → A = acc (xs m c) (labs m c) t⌝
    ∗ owns (c : Thread nD τ) (Memref.whole cc0_scratch0) fullShare A) ∗ ∃ r, prngReg c r)

/-- The proof data: the inputs stay, the output is read off the accumulators. -/
def dats (p : Fin 1) (c : Dev nD) : Dat τ (Elt Ideal) Unit ℕ (UR sig nD τ) ℕ (cfgs p) c where
  A w := V m c (Pipeline.arrRef spec0 w)
  after w t := match w with
    | ⟨0, h⟩ => (cfg0.win ⟨0, h⟩).fill (cfg0.grid.coords t) (fun _ => Classical.arbitrary _) (iblk m c ⟨0, h⟩ t)
    | ⟨1, h⟩ => (cfg0.win ⟨1, h⟩).fill (cfg0.grid.coords t) (fun _ => Classical.arbitrary _) (iblk m c ⟨1, h⟩ t)
    | ⟨2, h⟩ => result (F := Ideal) (acc (xs m c) (labs m c) (t.val + 1))
  Φ t := inv m c t.val
  q _ := fullShare
  owed _ := 0

theorem before_0 (c : Dev nD) (t : Fin cfg0.N) (d) : (dats m 0 c).before (0 : Fin 3) t d = win0_0.fill (grid0.coords t) d (iblk m c 0 t) := by
  unfold Dat.before; rw [if_pos (fetch0_0 t)]; rfl

theorem before_1 (c : Dev nD) (t : Fin cfg0.N) (d) : (dats m 0 c).before (1 : Fin 3) t d = win0_1.fill (grid0.coords t) d (iblk m c 1 t) := by
  unfold Dat.before; rw [if_pos (fetch0_1 t)]; rfl

/-- The class's invariant: the accumulators at some contents, and the generator register at some state. -/
theorem scratch_any (c : Dev nD) : (Pipeline.ΦA spec0 c : sProp 𝕄)
    = iprop((∃ A : S15x100x128.Idx → EReal, owns (c : Thread nD τ) (Memref.whole cc0_scratch0) fullShare A) ∗ ∃ r, prngReg c r) := by
  unfold Pipeline.ΦA
  rw [scopedRest0_eq]
  simp only [owns_whole]
  rfl

/-- What the output window's buffer holds after point `t`: the result at the last point, untouched before. -/
def leaves (c : Dev nD) (t : Fin cfg0.N) (O : S1x1.Idx → EReal) : S1x1.Idx → EReal :=
  if t.val = 52 then result (F := Ideal) (acc (xs m c) (labs m c) (t.val + 1)) else O

/-- The body at any point, from the invariant before it to the invariant after it. -/
theorem body_obligation (c : Dev nD) : BodyObligationLoose (dats m 0 c) (defs₀ (F := Ideal)) Variants.none () Set.univ := fun t => by
  rw [bigSep_W0, bigSep_W0]
  rw [show (dats m 0 c).Φ t.succ = inv m c (t.val + 1) from rfl, show (dats m 0 c).Φ t.castSucc = inv m c t.val from rfl,
    show (dats m 0 c).owesAt () t.succ = (dats m 0 c).owesAt () t.castSucc from rfl]
  unfold inv
  iintro ⟨⟨⟨%A, %hA, HA⟩, HP⟩, Ho, ⟨%d0, H0⟩, ⟨%d1, H1⟩, ⟨%d2, H2⟩⟩
  have hacc : afterPoint (F := Ideal) (grid0.coords t) (win0_0.fill (grid0.coords t) d0 (iblk m c 0 t))
      (win0_1.fill (grid0.coords t) d1 (iblk m c 1 t)) A = acc (xs m c) (labs m c) (t.val + 1) := by
    have h := afterPoint_acc (grid0.coords t) (staged m c t d0 d1) A (by
      rw [coord]
      by_cases h0 : t.val = 0
      · rw [if_pos ((cond1_iff t).mpr h0), h0, acc_zero]
      · rw [if_neg (fun h => h0 ((cond1_iff t).mp h)), hA h0])
    rwa [coord] at h
  rw [before_0 m c t d0, before_1 m c t d1]
  iapply (body_sound Variants.none c Set.univ (st0_0 t) (hstage0_0 ((cfg0.slots t 0).cast Facts₀.nbuf0_0)) (st0_1 t)
    (hstage0_1 ((cfg0.slots t 1).cast Facts₀.nbuf0_1)) (st0_2 t) (hstage0_2 ((cfg0.slots t 2).cast Facts₀.nbuf0_2))
    (Memref.whole cc0_scratch0) (Memref.isWhole_whole cc0_scratch0) _ (grid0.coords t) (win0_0.fill (grid0.coords t) d0 (iblk m c 0 t))
    (win0_1.fill (grid0.coords t) d1 (iblk m c 1 t)) ((dats m 0 c).before (2 : Fin 3) t d2) A) $$ [HA H0 H1 H2]
  · isplitl [H0]; · iexact H0
    isplitl [H1]; · iexact H1
    isplitl [H2]; · iexact H2
    iexact HA
  rw [hacc]
  iintro ⟨H0, H1, H2, HA⟩
  isplitl [HA HP]
  · isplitl [HA]
    · iexists _
      isplitr
      · ipureintro; exact fun _ => rfl
      iexact HA
    iexact HP
  isplitl [Ho]; · iexact Ho
  isplitl [H0]
  · iexists d0
    have h : win0_0.cut (grid0.coords t) ((dats m 0 c).after (0 : Fin 3) t) = iblk m c 0 t := win0_0.cut_fill _ _ _
    change _ ⊢ owns (c : Thread nD τ) (st0_0 t) fullShare (win0_0.fill (grid0.coords t) d0 (win0_0.cut (grid0.coords t) ((dats m 0 c).after (0 : Fin 3) t)))
    rw [h]
  isplitl [H1]
  · iexists d1
    have h : win0_1.cut (grid0.coords t) ((dats m 0 c).after (1 : Fin 3) t) = iblk m c 1 t := win0_1.cut_fill _ _ _
    change _ ⊢ owns (c : Thread nD τ) (st0_1 t) fullShare (win0_1.fill (grid0.coords t) d1 (win0_1.cut (grid0.coords t) ((dats m 0 c).after (1 : Fin 3) t)))
    rw [h]
  by_cases h52 : t.val = 52
  · have hi : cfg0.idle (2 : Fin 3) (cfg0.grid.coords t) = false := by
      show (!(k0_cond2 (grid0.coords t) == 1#1)) = false
      rw [(cond2_iff t).mpr h52]; rfl
    rw [hi, if_pos ((cond2_iff t).mpr h52)]
    iexact H2
  · have hc : ¬ k0_cond2 (grid0.coords t) = 1#1 := fun h => h52 ((cond2_iff t).mp h)
    have hi : cfg0.idle (2 : Fin 3) (cfg0.grid.coords t) = true := by
      show (!(k0_cond2 (grid0.coords t) == 1#1)) = true
      rw [show (k0_cond2 (grid0.coords t) == 1#1) = false from by simpa using hc]; rfl
    have hf : (cfg0.win (2 : Fin 3)).flush t = false := by
      rw [Bool.eq_false_iff]
      intro h
      have h' := (flush0_2 t).mp h
      have := t.isLt; have h53 : cfg0.N = 53 := N_0
      omega
    rw [hi, hf, if_neg hc]
    iexists d2
    iexact H2

/-- A one by one array has one index. -/
theorem one_cell (y z : S1x1.Idx) : y = z := by
  funext a
  match a with
  | ⟨0, _⟩ => exact Subsingleton.elim (α := Fin 1) _ _
  | ⟨1, _⟩ => exact Subsingleton.elim (α := Fin 1) _ _

/-- The result array's contents at the end. -/
theorem final_out (c : Dev nD) : (dats m 0 c).arrAt (2 : Fin 3) cfg0.N = result (F := Ideal) (acc (xs m c) (labs m c) 53) := by
  have h52 : (52 : Nat) < cfg0.N := by rw [show cfg0.N = 53 from N_0]; decide
  rw [show cfg0.N = (⟨52, h52⟩ : Fin cfg0.N).val + 1 from N_0, (dats m 0 c).arrAt_succ (2 : Fin 3) ⟨52, h52⟩,
    if_pos ((flush0_2 ⟨52, h52⟩).mpr rfl)]
  set t : Fin cfg0.N := ⟨52, h52⟩ with ht
  have hcut : (cfg0.win (2 : Fin 3)).cut (cfg0.grid.coords t) ((dats m 0 c).after (2 : Fin 3) t)
      = ((cfg0.win (2 : Fin 3)).blk t).view.read (Elt Ideal) (result (F := Ideal) (acc (xs m c) (labs m c) 53)) := by
    funext j
    exact congrArg (result (F := Ideal) (acc (xs m c) (labs m c) 53)) (one_cell ((cfg0.win (2 : Fin 3)).xinj (cfg0.grid.coords t) j)
      (((cfg0.win (2 : Fin 3)).blk t).view.emb j))
  rw [show (dats m 0 c).flushed (2 : Fin 3) t = (cfg0.win (2 : Fin 3)).cut (cfg0.grid.coords t) ((dats m 0 c).after (2 : Fin 3) t) from rfl,
    hcut, View.write_read_eq_piecewise]
  funext i
  unfold Finset.piecewise
  rw [if_pos]
  rw [View.setOn_univ]
  show i ∈ ((View.whole main_v2).slice (win0_2.rect t)).set
  rw [View.set_slice_whole, Rect.mem_set_unit]
  intro a
  match a with
  | ⟨0, _⟩ => show 0 * 1 ≤ (i 0).val ∧ (i 0).val < 0 * 1 + 1; have h : (i 0).val < 1 := (i 0).isLt; omega
  | ⟨1, _⟩ => show 0 * 1 ≤ (i 1).val ∧ (i 1).val < 0 * 1 + 1; have h : (i 1).val < 1 := (i 1).isLt; omega

/-- The program's result: the output window's one cell. -/
def answer (c : Dev nD) : S_.Idx → EReal := fun _ => result (F := Ideal) (acc (xs m c) (labs m c) 53) (ix2 0 0)

/-- The host line after the kernel reads its one cell. -/
theorem W_main_v3 (c : Dev nD) : Pipeline.afterTail₀ cfgs (dats m) 0 (V0 m) [hostOps1] c main_v3 = answer m c := by
  unfold Pipeline.afterTail₀
  simp only [hostOps1, List.flatten_cons, List.flatten_nil, List.append_nil]
  after_results
  have e := Pipeline.withArrays_arr spec0 winFacts0.arr_inj c (V0 m c) (fun w => (dats m 0 c).arrAt w cfg0.N) (2 : Fin 3)
  have e' := e.trans (final_out m c)
  funext i
  exact (congrFun e' _).trans (congrArg (result (F := Ideal) (acc (xs m c) (labs m c) 53)) (one_cell _ _))

set_option backward.isDefEq.respectTransparency.types false in
/-- Every execution ends with the answer, the arguments as launched, and every counter at zero. -/
theorem run_main : θ_run defs (onTc (τ := τ) (main (F := Ideal))) (s₀ m ρ) (fun r => (∀ c : Dev nD,
      r.2.mem ((c.tc : Thread nD τ).loc main_v3) = answer m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_frame_around_track cfgs (dats m) (0 : Fin 1) launch0 defs₀ Variants.none m ρ main
    (hbody := body_obligation m)
    (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := fun _ _ => rfl)
    (hin := fun c => by
      rw [show (dats m 0 c).Φ 0 = inv m c 0 from rfl, scratch_any]
      unfold inv
      iintro ⟨⟨%A, HA⟩, HP⟩
      isplitl [HA]
      · iexists A
        isplitr
        · ipureintro; exact fun h => absurd rfl h
        iexact HA
      iexact HP)
    (hout := fun c => by
      rw [show (dats m 0 c).Φ (Fin.last cfg0.N) = inv m c cfg0.N from rfl, scratch_any]
      unfold inv
      iintro ⟨⟨%A, %hA, HA⟩, HP⟩
      isplitl [HA]
      · iexists A; iexact HA
      iexact HP)
    (Q' := _)
    (hQ' := fun r h => ⟨fun c =>
      ⟨((h.1 c).2 main_v3 (Pipeline.mem_restRefs_of main_v3 (by decide) (by decide))).trans (W_main_v3 m c),
       ((h.1 c).2 main_arg0 (Pipeline.mem_restRefs_of main_arg0 (by decide) (by decide))).trans (W_main_arg0 m (dats m) c),
       ((h.1 c).2 main_arg1 (Pipeline.mem_restRefs_of main_arg1 (by decide) (by decide))).trans (W_main_arg1 m (dats m) c)⟩, h.2⟩)

end Cert.KernelIdeal.Body

open Idealize.ShloMosaic Idealize.ShloMosaic.TcCoe Idealize.SL.Sem in
/-- The idealised kernel's frame claim, from any memory. -/
theorem Cert.KernelIdeal.Body.frame : Cert.quiescent_KernelIdeal := fun m ρ _ =>
  (θ_run Cert.KernelIdeal.defs _ _).mono (fun r h => ⟨fun c => (h.1 c).2, h.2⟩) (Cert.KernelIdeal.Body.run_main m ρ)
-- ==== Proof.Names.lean ====
/- The named constants: each edge of the bins is the real it was computed from. -/
module

public import proofs.«01_k».proof.Proof.Gen.KernelIdeal
public import proofs.«01_k».proof.Defs

@[expose] public section

noncomputable section

open Idealize.ShloMosaic

namespace Cert.Names

/-- One edge: the table names the constant by the real it rounds. -/
theorem one (n : String) (w : BitVec 32) (v : EReal) (h : Cert.KernelIdeal.κ n = some v) :
    IdealRules.named_const.Statement Cert.KernelIdeal.κ n .f32 w v :=
  IdealRules.named_const.statement Cert.KernelIdeal.κ n .f32 w v h

/-- Naming the fourteen edges is all that tells the idealised kernel from the printed one. -/
theorem preserves : Cert.preserves_Kernel_KernelIdeal :=
  ⟨one _ _ _ rfl, one _ _ _ rfl, one _ _ _ rfl, one _ _ _ rfl, one _ _ _ rfl, one _ _ _ rfl, one _ _ _ rfl,
   one _ _ _ rfl, one _ _ _ rfl, one _ _ _ rfl, one _ _ _ rfl, one _ _ _ rfl, one _ _ _ rfl, one _ _ _ rfl⟩

end Cert.Names
-- ==== Proof.Reals.lean ====
/- The mathematics of the claim, over the reals: confidences, bins, and what a bin contributes. -/
module

public import Idealize.ShloMosaic.PureOps.Ideal.Laws

@[expose] public section

noncomputable section

namespace Cert.Reals

open Idealize.ShloMosaic

/-- The confidence of class `c` in a row of real logits. -/
def soft (v : Fin 100 → ℝ) (c : Fin 100) : ℝ := Real.exp (v c) / ∑ k, Real.exp (v k)

theorem denom_pos (v : Fin 100 → ℝ) : 0 < ∑ k, Real.exp (v k) :=
  Finset.sum_pos (fun k _ => Real.exp_pos _) ⟨0, Finset.mem_univ _⟩

theorem soft_pos (v : Fin 100 → ℝ) (c : Fin 100) : 0 < soft v c := div_pos (Real.exp_pos _) (denom_pos v)

theorem soft_le_one (v : Fin 100 → ℝ) (c : Fin 100) : soft v c ≤ 1 := by
  unfold soft
  rw [div_le_one (denom_pos v)]
  exact Finset.single_le_sum (f := fun k => Real.exp (v k)) (fun k _ => (Real.exp_pos _).le) (Finset.mem_univ c)

/-- Shifting every logit of a row by one number leaves the confidences. -/
theorem soft_shift (v : Fin 100 → ℝ) (M : ℝ) (c : Fin 100) :
    Real.exp (v c - M) / ∑ k, Real.exp (v k - M) = soft v c := by
  unfold soft
  simp only [Real.exp_sub]
  rw [← Finset.sum_div, div_div_div_cancel_right₀ (Real.exp_pos M).ne']

/-- A finite sum of reals, read in the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- The absolute value of a real, as the programs take it. -/
theorem coe_abs (r : ℝ) : max (r : EReal) (-(r : EReal)) = ((|r| : ℝ) : EReal) := by
  rw [← EReal.coe_neg, ← EReal.coe_strictMono.monotone.map_max]; rfl

theorem denom_coe (v : Fin 100 → ℝ) (M : ℝ) :
    ∑ k, Ideal.exp ((v k : EReal) - (M : EReal)) = ((∑ k, Real.exp (v k - M) : ℝ) : EReal) := by
  rw [← coe_sum]
  refine Finset.sum_congr rfl fun k _ => ?_
  rw [← EReal.coe_sub, Ideal.exp_coe]

/-- The kernel's confidence: the exponential times the reciprocal of the sum. -/
theorem times_recip (v : Fin 100 → ℝ) (M : ℝ) (c : Fin 100) :
    Ideal.exp ((v c : EReal) - (M : EReal)) * Ideal.div 1 (∑ k, Ideal.exp ((v k : EReal) - (M : EReal))) = (soft v c : EReal) := by
  rw [denom_coe, Ideal.div_coe (denom_pos fun k => v k - M).ne', one_mul, ← EReal.coe_sub, Ideal.exp_coe, ← EReal.coe_mul, mul_one_div,
    soft_shift]

/-- The reference's confidence: the exponential over the sum. -/
theorem over_sum (v : Fin 100 → ℝ) (M : ℝ) (c : Fin 100) :
    Ideal.div (Ideal.exp ((v c : EReal) - (M : EReal))) (∑ k, Ideal.exp ((v k : EReal) - (M : EReal))) = (soft v c : EReal) := by
  rw [denom_coe, Ideal.div_coe (denom_pos fun k => v k - M).ne', ← EReal.coe_sub, Ideal.exp_coe, ← EReal.coe_mul, mul_one_div,
    soft_shift]

/-- The maximum of finitely many reals, at least one, from −∞ up, is a real. -/
theorem fold_max_real {ι : Type} (s : Finset ι) (f : ι → EReal) (r : ι → ℝ) (hf : ∀ i, f i = (r i : EReal)) (a : ι) (ha : a ∈ s) :
    ∃ M : ℝ, Finset.fold max (⊥ : EReal) f s = (M : EReal) := by
  have hlt : Finset.fold max (⊥ : EReal) f s < ⊤ := by
    rw [Finset.fold_max_lt]
    exact ⟨bot_lt_top, fun i _ => by rw [hf]; exact EReal.coe_lt_top _⟩
  have hgt : ⊥ < Finset.fold max (⊥ : EReal) f s := by
    rw [Finset.lt_fold_max]
    exact Or.inr ⟨a, ha, by rw [hf]; exact EReal.bot_lt_coe _⟩
  exact ⟨_, (EReal.coe_toReal hlt.ne hgt.ne').symm⟩

/-! ## Bins -/

section Bins

variable {ι : Type} [Fintype ι] (s h : ι → ℝ)

/-- A confidence lies in bin `k`. -/
def In (k : Nat) (a : ℝ) : Prop := (k : ℝ) / 15 < a ∧ a ≤ ((k : ℝ) + 1) / 15

open Classical in
/-- The gap of bin `k`: confidences less hits, over the rows in the bin. -/
def gapOf (k : Nat) : ℝ := ∑ n, if In k (s n) then s n - h n else 0

open Classical in
/-- The gap of the bins up to `k` together; up to the last, of every row. -/
def upTo (k : Nat) : ℝ := ∑ n, if k = 14 ∨ s n ≤ ((k : ℝ) + 1) / 15 then s n - h n else 0

theorem upTo_zero (hs : ∀ n, 0 < s n) : upTo s h 0 = gapOf s h 0 := by
  classical
  unfold upTo gapOf
  refine Finset.sum_congr rfl fun n _ => if_congr ?_ rfl rfl
  have := hs n
  unfold In
  constructor
  · rintro (h | h)
    · omega
    · exact ⟨by simpa using this, h⟩
  · exact fun h => Or.inr h.2

theorem upTo_succ (hs : ∀ n, s n ≤ 1) (j : Nat) (hj : j < 14) : upTo s h (j + 1) - upTo s h j = gapOf s h (j + 1) := by
  classical
  unfold upTo gapOf
  rw [← Finset.sum_sub_distrib]
  refine Finset.sum_congr rfl fun n _ => ?_
  have h1 := hs n
  have hj' : ¬ j = 14 := by omega
  unfold In
  have top : (j + 1 = 14 ∨ s n ≤ (((j + 1 : Nat) : ℝ) + 1) / 15) ↔ s n ≤ (((j + 1 : Nat) : ℝ) + 1) / 15 := by
    constructor
    · rintro (h | h)
      · rw [h]; norm_num; exact h1
      · exact h
    · exact Or.inr
  have edge : ((j : ℝ) + 1) / 15 ≤ (((j + 1 : Nat) : ℝ) + 1) / 15 := by push_cast; linarith
  have e2 : (((j + 1 : Nat) : ℝ)) / 15 = ((j : ℝ) + 1) / 15 := by push_cast; rfl
  simp only [top, hj', false_or, e2]
  by_cases a : s n ≤ ((j : ℝ) + 1) / 15
  · rw [if_pos (a.trans edge), if_pos a, if_neg (fun h => absurd h.1 (not_lt.mpr a)), sub_self]
  · rw [if_neg a, sub_zero]
    refine if_congr ⟨fun h => ⟨not_le.mp a, h⟩, fun h => h.2⟩ rfl rfl

open Classical in
/-- One for a row in bin `k`, zero for another. -/
def ind (k : Nat) (a : ℝ) : ℝ := if In k a then 1 else 0

/-- A bin's weighted gap: the difference of its means, weighted by its share of the rows, is its gap over the number of rows. -/
theorem weighted (k : Nat) (N : ℝ) :
    (if 0 < ∑ n, ind k (s n) then
      |(∑ n, s n * ind k (s n)) / max (∑ n, ind k (s n)) 1 - (∑ n, h n * ind k (s n)) / max (∑ n, ind k (s n)) 1|
        * ((∑ n, ind k (s n)) / N)
      else 0) = |gapOf s h k| / N := by
  classical
  have hcount : ∑ n, ind k (s n) = ((Finset.univ.filter fun n => In k (s n)).card : ℝ) := by
    unfold ind; rw [Finset.sum_boole]
  have hgap : (∑ n, s n * ind k (s n)) - (∑ n, h n * ind k (s n)) = gapOf s h k := by
    unfold gapOf ind
    rw [← Finset.sum_sub_distrib]
    refine Finset.sum_congr rfl fun n _ => ?_
    split <;> ring
  split
  · rename_i hpos
    have hone : 1 ≤ ∑ n, ind k (s n) := by
      rw [hcount] at hpos ⊢
      exact_mod_cast hpos
    rw [max_eq_left hone, ← sub_div, hgap, abs_div, abs_of_pos hpos]
    field_simp
  · rename_i hneg
    have hz : (Finset.univ.filter fun n => In k (s n)).card = 0 := by
      rw [hcount] at hneg
      by_contra hne
      exact hneg (by exact_mod_cast Nat.pos_of_ne_zero hne)
    have hg : gapOf s h k = 0 := by
      unfold gapOf
      refine Finset.sum_eq_zero fun n _ => if_neg fun hn => ?_
      have := Finset.card_eq_zero.mp hz
      exact absurd (Finset.mem_filter.mpr ⟨Finset.mem_univ n, hn⟩) (by rw [this]; simp)
    rw [hg]; simp

end Bins

/-! ## Sums over a range, cut into stretches -/

/-- A sum over `A * B` numbers, by stretches of `B`. -/
theorem sum_stretches {M : Type} [AddCommMonoid M] (f : Nat → M) (B : Nat) :
    ∀ A : Nat, ∑ a ∈ Finset.range A, ∑ b ∈ Finset.range B, f (a * B + b) = ∑ n ∈ Finset.range (A * B), f n
  | 0 => by simp
  | A + 1 => by rw [Finset.sum_range_succ, sum_stretches f B A, Nat.succ_mul, Finset.sum_range_add]

/-- The kernel's order of summation — blocks, strips, lanes — visits each row once, and nothing past the batch counts. -/
theorem sum_blocks {M : Type} [AddCommMonoid M] (f : Nat → M) (hf : ∀ n, 200000 ≤ n → f n = 0) :
    ∑ l : Fin 128, ∑ b ∈ Finset.range 53, ∑ j ∈ Finset.range 30, f (b * 3840 + 128 * j + l.val) = ∑ n : Fin 200000, f n.val := by
  rw [Finset.sum_comm]
  have e : ∀ b ∈ Finset.range 53, ∑ l : Fin 128, ∑ j ∈ Finset.range 30, f (b * 3840 + 128 * j + l.val)
      = ∑ q ∈ Finset.range 3840, f (b * 3840 + q) := by
    intro b _
    rw [Finset.sum_comm, ← sum_stretches (fun q => f (b * 3840 + q)) 128 30]
    refine Finset.sum_congr rfl fun j _ => ?_
    rw [Finset.sum_range]
    refine Finset.sum_congr rfl fun l _ => congrArg f ?_
    ring
  rw [Finset.sum_congr rfl e, sum_stretches f 3840 53, show 53 * 3840 = 200000 + 3520 from rfl, Finset.sum_range_add,
    Finset.sum_eq_zero (s := Finset.range 3520) fun n _ => hf _ (Nat.le_add_right _ _), add_zero, Finset.sum_range]

end Cert.Reals
-- ==== Proof.Answer.lean ====
/- The number both programs compute, over the reals. -/
module

public import proofs.«01_k».proof.Proof.Reals

@[expose] public section

noncomputable section

namespace Cert.Reals

/-- One where the label is class `c`, zero elsewhere. -/
def hit (c : Fin 100) (lab : BitVec 32) : ℝ := if BitVec.ofNat 32 c.val = lab then 1 else 0

variable (r : Fin 200000 → Fin 100 → ℝ) (lab : Fin 200000 → BitVec 32)

/-- The gap of bin `k` in class `c`. -/
def gapAt (k : Nat) (c : Fin 100) : ℝ := gapOf (fun n => soft (r n) c) (fun n => hit c (lab n)) k

/-- The gap of the bins up to `k` in class `c`. -/
def upToAt (k : Nat) (c : Fin 100) : ℝ := upTo (fun n => soft (r n) c) (fun n => hit c (lab n)) k

/-- The static calibration error: the mean of the bins' absolute gaps over all confidences. -/
def answer : ℝ := (∑ c : Fin 100, ∑ k ∈ Finset.range 15, |gapAt r lab k c|) / 20000000

/-- The mean over the classes of the bins' shares is the answer. -/
theorem mean_eq : (∑ c : Fin 100, ∑ k ∈ Finset.range 15, |gapAt r lab k c| / 200000) * (1 / 100) = answer r lab := by
  unfold answer
  simp only [← Finset.sum_div]
  ring

/-- The first bin and the differences of the cumulative gaps make the answer. -/
theorem telescoped : ((∑ c : Fin 100, |upToAt r lab 0 c|) + ∑ k : Fin 14, ∑ c : Fin 100, |upToAt r lab (1 + k.val) c - upToAt r lab k.val c|)
    * (1 / 20000000) = answer r lab := by
  have h0 : ∀ c, upToAt r lab 0 c = gapAt r lab 0 c := fun c => upTo_zero _ _ fun n => soft_pos _ _
  have hk : ∀ (k : Fin 14) c, upToAt r lab (1 + k.val) c - upToAt r lab k.val c = gapAt r lab (k.val + 1) c := fun k c => by
    rw [add_comm 1]; exact upTo_succ _ _ (fun n => soft_le_one _ _) k.val k.isLt
  simp only [h0, hk]
  unfold answer
  rw [mul_one_div, Finset.sum_comm (s := Finset.univ) (t := Finset.range 15), Finset.sum_range_succ', add_comm,
    Finset.sum_range fun k => ∑ c : Fin 100, |gapAt r lab (k + 1) c|]

end Cert.Reals
-- ==== Proof.Words.lean ====
/- The float words of both programs, as numbers. -/
module

public import Idealize.ShloMosaic.PureOps.Ideal.Laws

@[expose] public section

noncomputable section

namespace Cert.Words

open Idealize.ShloMosaic

/-- Minus infinity. -/
theorem bot : Ideal.ofBits .f32 0xFF800000#32 = ⊥ := by simp [Ideal.ofBits, Ideal.ieee]
/-- Infinity. -/
theorem top : Ideal.ofBits .f32 0x7F800000#32 = ⊤ := by simp [Ideal.ofBits, Ideal.ieee]
/-- One. -/
theorem one : Ideal.ofBits .f32 0x3F800000#32 = ((1 : ℝ) : EReal) := by
  simp [Ideal.ofBits, Ideal.ieee, -EReal.coe_mul]
  first | rfl | (norm_num; done) | (rw [← EReal.coe_one]; norm_cast; norm_num) | (exact_mod_cast (by norm_num : (8388608:ℝ) * (2 ^ 23)⁻¹ = 1))
/-- Fifteen. -/
theorem fifteen : Ideal.ofBits .f32 0x41700000#32 = ((15 : ℝ) : EReal) := by
  simp [Ideal.ofBits, Ideal.ieee, -EReal.coe_mul]; norm_num
/-- The number of classes. -/
theorem classes : Ideal.ofBits .f32 0x42C80000#32 = ((100 : ℝ) : EReal) := by
  simp [Ideal.ofBits, Ideal.ieee, -EReal.coe_mul]; norm_num
/-- The number of rows. -/
theorem rows : Ideal.ofBits .f32 0x48435000#32 = ((200000 : ℝ) : EReal) := by
  simp [Ideal.ofBits, Ideal.ieee, -EReal.coe_mul]; norm_num
/-- The number of confidences. -/
theorem confidences : Ideal.ofBits .f32 0x4B989680#32 = ((20000000 : ℝ) : EReal) := by
  simp [Ideal.ofBits, Ideal.ieee, -EReal.coe_mul]; norm_num

end Cert.Words
-- ==== Proof.KernelIdeal.Value.lean ====
/- What the kernel computes, on real logits: the answer, as a real. -/
module

public import proofs.«01_k».proof.Proof.KernelIdeal.Cells
public import proofs.«01_k».proof.Proof.Answer
public import proofs.«01_k».proof.Proof.Words

@[expose] public section

set_option maxRecDepth 16384

noncomputable section

namespace Cert.KernelIdeal.Body

open Idealize.ShloMosaic Cert.KernelIdeal Cert.KernelIdeal.Gen

/-- A named edge is the real it rounds. -/
theorem named_edge (n : String) (w : BitVec 32) (v : ℝ) (h : κ n = some ((v : ℝ) : EReal)) :
    Named.named (F := Ideal) (φ := .f32) κ n w = ((v : ℝ) : EReal) :=
  IdealRules.named_const.ideal_named_scalar _ _ _ _ h

/-- The upper edge of each of the first fourteen bins. -/
theorem edge_real (k : Nat) (hk : k < 14) : edge (F := Ideal) k = ((((k : ℝ) + 1) / 15 : ℝ) : EReal) := by
  interval_cases k
  all_goals unfold edge; refine (named_edge _ _ _ rfl).trans (congrArg _ ?_); norm_num

/-- The confidences of real logits. -/
theorem conf_real (v : Fin 100 → EReal) (r : Fin 100 → ℝ) (hv : ∀ k, v k = ((r k : ℝ) : EReal)) (c : Fin 100) :
    conf v c = ((Reals.soft r c : ℝ) : EReal) := by
  unfold conf
  rw [Words.bot]
  obtain ⟨M, hM⟩ := Reals.fold_max_real Finset.univ (fun k => v k) r hv (0 : Fin 100) (Finset.mem_univ _)
  rw [hM]
  simp only [hv]
  exact Reals.times_recip r M c

open Classical in
/-- What a row of real logits adds. -/
theorem addend_real (k : Nat) (hk : k < 15) (v : Fin 100 → EReal) (r : Fin 100 → ℝ) (hv : ∀ k, v k = ((r k : ℝ) : EReal)) (lab : BitVec 32) (c : Fin 100) :
    addend k v lab c = ((if k = 14 ∨ Reals.soft r c ≤ ((k : ℝ) + 1) / 15 then Reals.soft r c - Reals.hit c lab else 0 : ℝ) : EReal) := by
  have hs : signed v lab c = ((Reals.soft r c - Reals.hit c lab : ℝ) : EReal) := by
    unfold signed Reals.hit
    rw [conf_real v r hv]
    split
    · rw [EReal.coe_sub]; rfl
    · rw [sub_zero]
  have hc : (k = 14 ∨ conf v c ≤ edge (F := Ideal) k) ↔ (k = 14 ∨ Reals.soft r c ≤ ((k : ℝ) + 1) / 15) := by
    by_cases h : k = 14
    · simp only [h, true_or]
    · rw [conf_real v r hv, edge_real k (by omega), EReal.coe_le_coe_iff]
  unfold addend
  rw [hs]
  by_cases h : k = 14 ∨ Reals.soft r c ≤ ((k : ℝ) + 1) / 15
  · rw [if_pos (hc.mpr h), if_pos h]
  · rw [if_neg (fun e => h (hc.mp e)), if_neg h]; rfl

variable (x : S200000x100.Idx → EReal) (lab : S200000.Idx → BitVec 32) (r : Fin 200000 → Fin 100 → ℝ)
  (hx : ∀ n c, x (ix2 n c) = ((r n c : ℝ) : EReal))

include hx in
/-- The lane sums of the accumulators at the end: the gaps of the bins up to `k`. -/
theorem lanes_real (k : Fin 15) (c : Fin 100) :
    lanes (F := Ideal) (acc x lab 53) (ix2 k c) = ((Reals.upToAt r (fun n => lab (ix1 n)) k.val c : ℝ) : EReal) := by
  have e : lanes (F := Ideal) (acc x lab 53) (ix2 k c) = ∑ l : Fin 128, acc x lab 53 (ix3 k c l) := by pointwise [lanes]
  rw [e]
  refine (Reals.sum_blocks (fun n => cell x lab k.val c n) (fun n h => dif_neg (by omega))).trans ?_
  unfold Reals.upToAt Reals.upTo
  rw [← Reals.coe_sum]
  refine Finset.sum_congr rfl fun n _ => ?_
  show cell x lab k.val c n.val = _
  unfold cell
  rw [dif_pos n.isLt]
  exact addend_real k.val k.isLt _ (r n) (hx n) _ c

/-- The total of an array of reals. -/
theorem total_real (T : FVec Ideal S15x100 .f32) (t : Nat → Fin 100 → ℝ) (hT : ∀ (k : Fin 15) c, T (ix2 k c) = ((t k.val c : ℝ) : EReal)) :
    total T = (((∑ c : Fin 100, |t 0 c|) + ∑ k : Fin 14, ∑ c : Fin 100, |t (1 + k.val) c - t k.val c| : ℝ) : EReal) := by
  pointwise [total]
  simp only [hT, Ideal.absf_def, ← EReal.coe_sub, Reals.coe_abs, Reals.coe_sum]
  rw [← EReal.coe_add, Fin.sum_univ_one]
  rfl

include hx in
/-- What the last grid point stores is the answer. -/
theorem result_real (i : S1x1.Idx) :
    result (F := Ideal) (acc x lab 53) i = ((Reals.answer r (fun n => lab (ix1 n)) : ℝ) : EReal) := by
  show Ideal.div (total (lanes (F := Ideal) (acc x lab 53))) (Ideal.ofBits .f32 0x4B989680#32) = _
  rw [total_real _ (Reals.upToAt r (fun n => lab (ix1 n))) (lanes_real x lab r hx), Words.confidences, Ideal.div_coe (by norm_num),
    ← EReal.coe_mul, Reals.telescoped]

end Cert.KernelIdeal.Body
-- ==== Proof.Reference.Bins.lean ====
/- The reference, bin by bin: what one bin contributes to each class, and the sum of the fifteen. -/
module

public import proofs.«01_k».proof.Proof.Gen.ReferenceIdeal.Run
public import Idealize.ShloMosaic.Lib.Pointwise
public import Idealize.ShloMosaic.PureOps.Ideal.Laws
public import proofs.«01_k».proof.Proof.Reals
public import proofs.«01_k».proof.Proof.Words

@[expose] public section

set_option maxRecDepth 16384

noncomputable section

namespace Cert.ReferenceIdeal.Body

open Idealize.ShloMosaic Idealize.ShloMosaic.TcCoe Cert.ReferenceIdeal Cert.ReferenceIdeal.Gen Cert.ReferenceIdeal.Value

/-- One where the confidence lies above `lo` and not above `hi`, zero elsewhere. -/
def mask (s : FVec Ideal S200000x100 .f32) (lo hi : FVec Ideal S_ .f32) : FVec Ideal S200000x100 .f32 :=
  uitofp .f32 (andi (cmpf .ogt s (broadcastInDim S200000x100 ![] bcast_S_S200000x100 lo))
    (cmpf .ole s (broadcastInDim S200000x100 ![] bcast_S_S200000x100 hi)))

/-- The sum over the rows, class by class. -/
def overRows (a : FVec Ideal S200000x100 .f32) : FVec Ideal S100 .f32 :=
  Host.reduceAdd a (constant S_ .f32 0x00000000#32) reducesTo_S200000x100_S100_d0 h_S_

/-- What a bin contributes to each class, from the confidences, the labels' indicator and the bin's mask. -/
def contrib (s h mk : FVec Ideal S200000x100 .f32) : FVec Ideal S100 .f32 :=
  select (cmpf .ogt (overRows mk) (broadcastInDim S100 ![] bcast_S_S100 (constant S_ .f32 0x00000000#32)))
    (mulf (Host.absf (subf
        (Host.divf (overRows (mulf s mk)) (maximumf (overRows mk) (broadcastInDim S100 ![] bcast_S_S100 (constant S_ .f32 0x3F800000#32))))
        (Host.divf (overRows (mulf h mk)) (maximumf (overRows mk) (broadcastInDim S100 ![] bcast_S_S100 (constant S_ .f32 0x3F800000#32))))))
      (Host.divf (overRows mk) (broadcastInDim S100 ![] bcast_S_S100 (constant S_ .f32 0x48435000#32))))
    (broadcastInDim S100 ![] bcast_S_S100 (id (constant S_ .f32 0x00000000#32)))

theorem uitofp_bit (b : BitVec 1) : (FloatOps.uitofp .f32 b : Ideal .f32) = if b = 1#1 then 1 else 0 := by
  show (((b.toNat : ℝ)) : EReal) = _
  by_cases h : b = 1#1
  · subst h; simp
  · rw [if_neg h]
    have : b = 0#1 := by revert h; revert b; decide
    subst this; simp

theorem and_bits (p q : Prop) [Decidable p] [Decidable q] :
    IntOp.andi (BitVec.ofBool (decide p)) (BitVec.ofBool (decide q)) = 1#1 ↔ p ∧ q := by
  by_cases hp : p <;> by_cases hq : q <;> simp [hp, hq, IntOp.andi]

/-- The mask of a bin with real edges, at a real confidence. -/
theorem mask_apply (s : FVec Ideal S200000x100 .f32) (lo hi : FVec Ideal S_ .f32) (n : Fin 200000) (c : Fin 100) (k : Nat) (a : ℝ)
    (hs : s (ix2 n c) = ((a : ℝ) : EReal)) (hlo : lo ix0 = (((k : ℝ) / 15 : ℝ) : EReal)) (hhi : hi ix0 = ((((k : ℝ) + 1) / 15 : ℝ) : EReal)) :
    mask s lo hi (ix2 n c) = ((Reals.ind k a : ℝ) : EReal) := by
  pointwise [mask]
  rw [hs, hlo, hhi, uitofp_bit]
  simp only [and_bits, EReal.coe_lt_coe_iff, EReal.coe_le_coe_iff]
  unfold Reals.ind Reals.In
  split <;> simp_all

theorem overRows_apply (a : FVec Ideal S200000x100 .f32) (c : Fin 100) : overRows a (ix1 c) = ∑ n : Fin 200000, a (ix2 n c) := by
  pointwise [overRows]

theorem overRows_coe (a : FVec Ideal S200000x100 .f32) (c : Fin 100) (r : Fin 200000 → ℝ) (h : ∀ n, a (ix2 n c) = ((r n : ℝ) : EReal)) :
    overRows a (ix1 c) = ((∑ n, r n : ℝ) : EReal) := by
  rw [overRows_apply, ← Reals.coe_sum]
  exact Finset.sum_congr rfl fun n _ => h n

/-- What a bin contributes to a class: its gap over the number of rows. -/
theorem contrib_apply (s h mk : FVec Ideal S200000x100 .f32) (c : Fin 100) (k : Nat) (a t : Fin 200000 → ℝ)
    (hs : ∀ n, s (ix2 n c) = ((a n : ℝ) : EReal)) (hh : ∀ n, h (ix2 n c) = ((t n : ℝ) : EReal))
    (hm : ∀ n, mk (ix2 n c) = ((Reals.ind k (a n) : ℝ) : EReal)) :
    contrib s h mk (ix1 c) = ((|Reals.gapOf a t k| / 200000 : ℝ) : EReal) := by
  have e1 := overRows_coe mk c _ hm
  have e2 := overRows_coe (mulf s mk) c (fun n => a n * Reals.ind k (a n)) (fun n => by pointwise []; rw [hs, hm, EReal.coe_mul])
  have e3 := overRows_coe (mulf h mk) c (fun n => t n * Reals.ind k (a n)) (fun n => by pointwise []; rw [hh, hm, EReal.coe_mul])
  have hmax : max (((∑ n, Reals.ind k (a n) : ℝ)) : EReal) 1 = ((max (∑ n, Reals.ind k (a n)) 1 : ℝ) : EReal) := by
    rw [EReal.coe_strictMono.monotone.map_max]; rfl
  have hne : max (∑ n, Reals.ind k (a n)) 1 ≠ 0 := (lt_of_lt_of_le one_pos (le_max_right _ _)).ne'
  rw [← Reals.weighted]
  pointwise [contrib]
  rw [e1, e2, e3, hmax, Words.rows, Ideal.div_coe hne, Ideal.div_coe hne, Ideal.div_coe (by norm_num), ← EReal.coe_mul, ← EReal.coe_mul,
    ← EReal.coe_mul, ← EReal.coe_sub, Ideal.absf_def, Reals.coe_abs, ← EReal.coe_mul]
  simp only [mul_one_div]
  have hz : id (constant (F := Ideal) S_ .f32 0#32) ix0 = ((0 : ℝ) : EReal) := by
    show Ideal.ofBits .f32 0#32 = _
    rw [Ideal.ofBits_zero_f32]; rfl
  rw [hz]
  by_cases hp : 0 < ∑ n, Reals.ind k (a n)
  · rw [if_pos hp, if_pos (EReal.coe_pos.mpr hp)]
  · rw [if_neg hp, if_neg (fun h => hp (EReal.coe_pos.mp h))]

variable (V0 : Valuation τ sig (Elt Ideal))

/-- Real logits, read at any index. -/
theorem real_at (x : S200000x100.Idx → EReal) (r : Fin 200000 → Fin 100 → ℝ) (hr : ∀ n c, x (ix2 n c) = ((r n c : ℝ) : EReal))
    (i : S200000x100.Idx) : x i = ((r (i 0) (i 1) : ℝ) : EReal) := by
  obtain ⟨n, c, rfl⟩ : ∃ n c, i = ix2 n c := ⟨i 0, i 1, eq_ix2 i⟩
  exact hr n c

/-- Dropping the class of an entry leaves its row. -/
theorem drop_row (n : Fin 200000) (c : Fin 100) : reducesTo_S200000x100_S200000_d1.drop (ix2 n c) = ix1 n := by
  funext a
  match a with
  | ⟨0, _⟩ => rfl

/-- The confidences of a row, shifted by any real. -/
theorem row_soft (v : Fin 100 → EReal) (r : Fin 100 → ℝ) (hv : ∀ k, v k = ((r k : ℝ) : EReal)) (A : EReal) (hA : ∃ M : ℝ, A = (M : EReal))
    (c : Fin 100) :
    Ideal.div (Ideal.exp (v c - max ⊥ A)) (∑ k, Ideal.exp (v k - max ⊥ A)) = ((Reals.soft r c : ℝ) : EReal) := by
  obtain ⟨M, rfl⟩ := hA
  rw [max_eq_right bot_le]
  simp only [hv]
  exact Reals.over_sum r M c

/-- The largest logit of every row. -/
def reduced (x : FVec Ideal S200000x100 .f32) : FVec Ideal S200000 .f32 :=
  Host.reduce FloatOps.maximumf x (constant S_ .f32 0xFF800000#32) reducesTo_S200000x100_S200000_d1 h_S_

/-- The largest of reals, over any set that is not empty, is a real. -/
theorem fold_real {ι : Type} (s : Finset ι) (f : ι → Ideal .f32) (g : ι → ℝ) (hf : ∀ i, f i = ((g i : ℝ) : EReal)) (a : ι) (ha : a ∈ s) (b : Ideal .f32) (hb : b = (⊥ : EReal)) :
    ∃ M : ℝ, Finset.fold FloatOps.maximumf b f s = (M : EReal) := by
  subst hb
  exact Reals.fold_max_real s f g hf a ha

/-- The largest of a row of reals is a real. -/
theorem reduced_real (x : FVec Ideal S200000x100 .f32) (n : Fin 200000) (r : Fin 200000 → Fin 100 → ℝ)
    (hr : ∀ n c, x (ix2 n c) = ((r n c : ℝ) : EReal)) : ∃ M : ℝ, reduced x (ix1 n) = (M : EReal) := by
  unfold reduced
  rw [Host.reduce_eq_fold]
  refine fold_real _ x (fun i => r (i 0) (i 1)) (real_at _ r hr) (ix2 n 0) ?_ _ Words.bot
  rw [Finset.mem_filter]
  exact ⟨Finset.mem_univ _, drop_row n 0⟩

/-- A bound of every row, against −∞. -/
def top (M : FVec Ideal S200000 .f32) : FVec Ideal S200000 .f32 :=
  maximumf (broadcastInDim S200000 ![] bcast_S_S200000 (constant S_ .f32 0xFF800000#32)) M

theorem top_apply (M : FVec Ideal S200000 .f32) (n : Fin 200000) : top M (ix1 n) = max ⊥ (M (ix1 n)) := by
  pointwise [top]
  rw [Words.bot]

/-- Exponentials of shifted logits. -/
def expM (x : FVec Ideal S200000x100 .f32) (M : FVec Ideal S200000 .f32) : FVec Ideal S200000x100 .f32 :=
  Host.exp (subf x (broadcastInDim S200000x100 ![0, 1] bcast_S200000x1_S200000x100_0_1 (broadcastInDim S200000x1 ![0] bcast_S200000_S200000x1_0 M)))

/-- Shares of the exponentials of shifted logits. -/
def softM (x : FVec Ideal S200000x100 .f32) (M : FVec Ideal S200000 .f32) : FVec Ideal S200000x100 .f32 :=
  Host.divf (expM x M) (broadcastInDim S200000x100 ![0, 1] bcast_S200000x1_S200000x100_0_1 (broadcastInDim S200000x1 ![0] bcast_S200000_S200000x1_0 (Host.reduceAdd (expM x M) (constant S_ .f32 0x00000000#32) reducesTo_S200000x100_S200000_d1 h_S_)))

theorem softM_apply (x : FVec Ideal S200000x100 .f32) (M : FVec Ideal S200000 .f32)  (n : Fin 200000) (c : Fin 100) :
    softM x M (ix2 n c) = Ideal.div (Ideal.exp (x (ix2 n c) - M (ix1 n))) (∑ k, Ideal.exp (x (ix2 n k) - M (ix1 n))) := by
  pointwise [softM, expM]

/-- The reference's confidences are shares of exponentials shifted by the row maximum. -/
theorem v13_eq : res_main_v13 V0 = softM (V0 (Proc.devRef .tc main_arg0)) (top (reduced (V0 (Proc.devRef .tc main_arg0)))) := rfl

/-- The confidences of a row of real logits. -/
theorem soft_apply (n : Fin 200000) (c : Fin 100) (r : Fin 200000 → Fin 100 → ℝ)
    (hr : ∀ n c, V0 (Proc.devRef .tc main_arg0) (ix2 n c) = ((r n c : ℝ) : EReal)) :
    res_main_v13 V0 (ix2 n c) = ((Reals.soft (r n) c : ℝ) : EReal) := by
  rw [v13_eq, softM_apply, top_apply]
  exact row_soft (fun k => V0 (Proc.devRef .tc main_arg0) (ix2 n k)) (r n) (hr n) _ (reduced_real _ n r hr) c

theorem cmpi_one (a b : BitVec 32) : (IntOp.cmpi .eq a b = 1#1) ↔ a = b := by
  unfold IntOp.cmpi
  by_cases h : a = b
  · subst h; simp
  · rw [show (a == b) = false from by simpa using h]
    exact iff_of_false (show ¬ BitVec.ofBool false = 1#1 by decide) h

/-- The label's indicator. -/
theorem hot_apply (n : Fin 200000) (c : Fin 100) : res_main_v14 V0 (ix2 n c)
    = (((if BitVec.ofNat 32 c.val = V0 (Proc.devRef .tc main_arg1) (ix1 n) then 1 else 0 : ℝ)) : EReal) := by
  pointwise [res_main_v14]
  rw [uitofp_bit]
  by_cases h : BitVec.ofNat 32 c.val = V0 (Proc.devRef .tc main_arg1) (ix1 n)
  · rw [if_pos h, if_pos ((cmpi_one _ _).mpr h.symm)]; rfl
  · rw [if_neg h, if_neg (fun e => h ((cmpi_one _ _).mp e).symm)]; rfl

/-- One of the equally spaced edges. -/
theorem edge_val (j : Nat) (hj : j < 15) :
    id (constant (F := Ideal) S_ .f32 0#32) ix0 * (1 - Ideal.div (FloatOps.sitofp (F := Ideal) .f32 (BitVec.ofNat 32 j)) (Ideal.ofBits .f32 1097859072#32))
      + id (constant (F := Ideal) S_ .f32 1065353216#32) ix0 * Ideal.div (FloatOps.sitofp (F := Ideal) .f32 (BitVec.ofNat 32 j)) (Ideal.ofBits .f32 1097859072#32)
      = (((j : ℝ) / 15 : ℝ) : EReal) := by
  have h0 : id (constant (F := Ideal) S_ .f32 0#32) ix0 = (0 : EReal) := Ideal.ofBits_zero_f32
  have h1 : id (constant (F := Ideal) S_ .f32 1065353216#32) ix0 = (1 : EReal) := Words.one
  have hs : (FloatOps.sitofp (F := Ideal) .f32 (BitVec.ofNat 32 j)) = (((j : ℝ)) : EReal) := by
    show ((((BitVec.ofNat 32 j).toInt : ℝ)) : EReal) = _
    have : (BitVec.ofNat 32 j).toInt = (j : Int) := by
      rw [BitVec.toInt_eq_toNat_cond, BitVec.toNat_ofNat]; split <;> omega
    rw [this]; rfl
  rw [h0, h1, hs, Words.fifteen, zero_mul, zero_add, one_mul, Ideal.div_coe (by norm_num), ← EReal.coe_mul, mul_one_div]

/-- The lower edges of the bins. -/
theorem lower_apply (k : Fin 15) : res_main_v1 V0 (ix1 k) = (((k.val : ℝ) / 15 : ℝ) : EReal) := by
  pointwise [res_main_v1, res_main_v0, res_main_call0_v0, res_main_call0_v1, res_main_call0_v6]
  exact edge_val k.val k.isLt

/-- The upper edges of the bins. -/
theorem upper_apply (k : Fin 15) : res_main_v2 V0 (ix1 k) = ((((k.val : ℝ) + 1) / 15 : ℝ) : EReal) := by
  pointwise [res_main_v2, res_main_v0, res_main_call0_v0, res_main_call0_v1, res_main_call0_v6]
  by_cases h : 1 + k.val < 15
  · rw [dif_pos h, edge_val _ h]; push_cast; rw [add_comm (1 : ℝ)]
  · have hk : k.val = 14 := by have := k.isLt; omega
    rw [dif_neg h, hk]
    show Ideal.ofBits .f32 0x3F800000#32 = _
    rw [Words.one]; norm_num

end Cert.ReferenceIdeal.Body
-- ==== Proof.Reference.Value.lean ====
/- What the reference computes: the answer, as a real. -/
module

public import proofs.«01_k».proof.Proof.Reference.Bins
public import proofs.«01_k».proof.Proof.Answer

@[expose] public section

set_option maxRecDepth 16384

noncomputable section

namespace Cert.ReferenceIdeal.Body

open Idealize.ShloMosaic Idealize.ShloMosaic.TcCoe Cert.ReferenceIdeal Cert.ReferenceIdeal.Gen Cert.ReferenceIdeal.Value
open Cert.ReferenceIdeal.Facts

/-- One of fifteen edges, as an array of one number. -/
def slot (e : FVec Ideal S15 .f32) (k : Nat) (h : S15.Slices ![k] S1) : FVec Ideal S_ .f32 :=
  shapeCast _ (extractStridedSlice S1 ![k] e h) shapeCasts_S1_S_

theorem slot_apply (e : FVec Ideal S15 .f32) (k : Nat) (h : S15.Slices ![k] S1) (hk : k < 15) : slot e k h ix0 = e (ix1 ⟨k, hk⟩) := by
  pointwise [slot]

variable (V0 : Valuation τ sig (Elt Ideal))

/-- Bin `k`'s contributions. -/
def bin (k : Nat) (h : S15.Slices ![k] S1) : FVec Ideal S100 .f32 :=
  contrib (res_main_v13 V0) (res_main_v14 V0) (mask (res_main_v13 V0) (slot (res_main_v1 V0) k h) (slot (res_main_v2 V0) k h))

/-- The zeros the bins are added to. -/
def zeros : FVec Ideal S100 .f32 := broadcastInDim S100 ![] bcast_S_S100 (constant S_ .f32 0x00000000#32)

theorem v211_eq : res_main_v211 V0 = addf (addf (addf (addf (addf (addf (addf zeros (bin V0 0 slices_S15_S1_0)) (bin V0 1 slices_S15_S1_1))
    (bin V0 2 slices_S15_S1_2)) (bin V0 3 slices_S15_S1_3)) (bin V0 4 slices_S15_S1_4)) (bin V0 5 slices_S15_S1_5)) (bin V0 6 slices_S15_S1_6) := rfl

theorem v407_eq : res_main_v407 V0 = addf (addf (addf (addf (addf (addf (addf (res_main_v211 V0) (bin V0 7 slices_S15_S1_7)) (bin V0 8 slices_S15_S1_8))
    (bin V0 9 slices_S15_S1_9)) (bin V0 10 slices_S15_S1_10)) (bin V0 11 slices_S15_S1_11)) (bin V0 12 slices_S15_S1_12)) (bin V0 13 slices_S15_S1_13) := rfl

/-- The mean over the classes. -/
def mean (T : FVec Ideal S100 .f32) : FVec Ideal S_ .f32 :=
  Host.divf (Host.reduceAdd T (constant S_ .f32 0x00000000#32) reducesTo_S100_S_d0 h_S_) (constant S_ .f32 0x42C80000#32)

theorem mean_apply (T : FVec Ideal S100 .f32) : mean T ix0 = Ideal.div (∑ c : Fin 100, T (ix1 c)) (Ideal.ofBits .f32 0x42C80000#32) := by
  pointwise [mean]

variable (r : Fin 200000 → Fin 100 → ℝ) (hr : ∀ n c, V0 (Proc.devRef .tc main_arg0) (ix2 n c) = ((r n c : ℝ) : EReal))

/-- The labels. -/
abbrev labels (n : Fin 200000) : BitVec 32 := V0 (Proc.devRef .tc main_arg1) (ix1 n)

include hr in
/-- What bin `k` contributes to a class. -/
theorem bin_real (k : Nat) (h : S15.Slices ![k] S1) (hk : k < 15) (c : Fin 100) :
    bin V0 k h (ix1 c) = ((|Reals.gapAt r (labels V0) k c| / 200000 : ℝ) : EReal) :=
  contrib_apply _ _ _ c k _ _ (fun n => soft_apply V0 n c r hr) (fun n => hot_apply V0 n c)
    (fun n => mask_apply _ _ _ n c k _ (soft_apply V0 n c r hr)
      ((slot_apply _ k h hk).trans (lower_apply V0 ⟨k, hk⟩)) ((slot_apply _ k h hk).trans (upper_apply V0 ⟨k, hk⟩)))

/-- Two arrays of reals added. -/
theorem addf_real (a b : FVec Ideal S100 .f32) (c : Fin 100) (p q : ℝ) (ha : a (ix1 c) = (p : EReal)) (hb : b (ix1 c) = (q : EReal)) :
    addf a b (ix1 c) = ((p + q : ℝ) : EReal) := by
  rw [EReal.coe_add, ← ha, ← hb]; rfl

theorem zeros_real (c : Fin 100) : zeros (ix1 c) = ((0 : ℝ) : EReal) := by
  pointwise [zeros]; first | rfl | rw [Ideal.ofBits_zero_f32]; rfl

/-- The fifteen bins, added. -/
def binned : FVec Ideal S100 .f32 := addf (res_main_v407 V0) (bin V0 14 slices_S15_S1_14)

include hr in
/-- The fifteen bins, added, as a real. -/
theorem binned_real (c : Fin 100) :
    binned V0 (ix1 c) = ((∑ k ∈ Finset.range 15, |Reals.gapAt r (labels V0) k c| / 200000 : ℝ) : EReal) := by
  have b := fun k h hk => bin_real V0 r hr k h hk c
  unfold binned
  rw [v407_eq, v211_eq]
  refine (addf_real _ _ c _ _ (addf_real _ _ c _ _ (addf_real _ _ c _ _ (addf_real _ _ c _ _ (addf_real _ _ c _ _ (addf_real _ _ c _ _
    (addf_real _ _ c _ _ (addf_real _ _ c _ _ (addf_real _ _ c _ _ (addf_real _ _ c _ _ (addf_real _ _ c _ _ (addf_real _ _ c _ _
    (addf_real _ _ c _ _ (addf_real _ _ c _ _ (addf_real _ _ c _ _ (zeros_real c) (b 0 _ (by omega))) (b 1 _ (by omega))) (b 2 _ (by omega)))
    (b 3 _ (by omega))) (b 4 _ (by omega))) (b 5 _ (by omega))) (b 6 _ (by omega))) (b 7 _ (by omega))) (b 8 _ (by omega)))
    (b 9 _ (by omega))) (b 10 _ (by omega))) (b 11 _ (by omega))) (b 12 _ (by omega))) (b 13 _ (by omega))) (b 14 _ (by omega))).trans ?_
  simp only [Finset.sum_range_succ, Finset.sum_range_zero]

include hr in
/-- The reference's result is the answer. -/
theorem mean_real : mean (binned V0) = fun _ => ((Reals.answer r (labels V0) : ℝ) : EReal) := by
  funext i
  obtain rfl : i = ix0 := funext fun a => a.elim0
  rw [mean_apply, Words.classes, Ideal.div_coe (by norm_num), Finset.sum_congr rfl fun c _ => binned_real V0 r hr c, Reals.coe_sum,
    ← EReal.coe_mul, Reals.mean_eq]

/-- The last bin's term of the run is the last bin. -/
theorem last_eq : addf (res_main_v407 V0) (select (cmpf .ogt (res_main_v418 V0) (broadcastInDim S100 ![] bcast_S_S100 (constant S_ .f32 0x00000000#32))) (mulf (Host.absf (subf (Host.divf (Host.reduceAdd (mulf (res_main_v13 V0) (res_main_v417 V0)) (constant S_ .f32 0x00000000#32) reducesTo_S200000x100_S100_d0 h_S_) (res_main_v426 V0)) (Host.divf (Host.reduceAdd (mulf (res_main_v14 V0) (res_main_v417 V0)) (constant S_ .f32 0x00000000#32) reducesTo_S200000x100_S100_d0 h_S_) (res_main_v426 V0)))) (Host.divf (res_main_v418 V0) (broadcastInDim S100 ![] bcast_S_S100 (constant S_ .f32 0x48435000#32)))) (broadcastInDim S100 ![] bcast_S_S100 (id (constant S_ .f32 0x00000000#32)))) = binned V0 := rfl

open Idealize.SL.Sem in
/-- From any memory the reference ends with the mean of its bins, the arguments as launched. -/
theorem ended (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v437) = mean (binned (StableHlo.launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (congrArg mean (last_eq (StableHlo.launchContents m c))), (h c).2⟩)
    (Cert.ReferenceIdeal.Value.run (F := Ideal) m ρ)

end Cert.ReferenceIdeal.Body
-- ==== Proof.Reference.Frames.lean ====
/- The reference ends, leaves its arguments, and uses no semaphore. -/
module

public import proofs.«01_k».proof.Proof.Gen.ReferenceIdeal.Run
public import proofs.«01_k».proof.Defs
public import Idealize.ShloMosaic.Lib.Quiescent

@[expose] public section

noncomputable section

open Idealize.ShloMosaic Idealize.ShloMosaic.TcCoe Idealize.SL.Sem

namespace Cert.ReferenceIdeal.Body

/-- From any memory the reference ends with its arguments as launched and every counter at zero. -/
theorem run_main (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, Idealize.ShloMosaic.sem_eq_zero_of_no_sems (by decide) r.2⟩)
    (Cert.ReferenceIdeal.Value.run (F := Ideal) m ρ)

end Cert.ReferenceIdeal.Body

/-- The reference's frame claim, from any memory. -/
theorem Cert.ReferenceIdeal.Body.frame : Cert.quiescent_ReferenceIdeal := fun m ρ _ => Cert.ReferenceIdeal.Body.run_main m ρ
-- ==== Proof.Finite.lean ====
/- The precondition, read: every logit is a real. -/
module

public import proofs.«01_k».proof.Proof.Gen.Pre_finite_logits
public import proofs.«01_k».proof.Proof.Words
public import Idealize.ShloMosaic.Lib.ReduceAll
public import Idealize.ShloMosaic.Lib.Pointwise
public import Idealize.ShloMosaic.PureOps.Ideal.Laws

@[expose] public section

set_option maxRecDepth 16384

noncomputable section

namespace Cert.Pre_finite_logits.Body

open Idealize.ShloMosaic Cert.Pre_finite_logits Cert.Pre_finite_logits.Gen

/-- A number whose absolute value lies below infinity is a real. -/
theorem real_of_abs (a : EReal) (h : max a (-a) < ⊤) : ∃ r : ℝ, a = (r : EReal) := by
  have h1 : a ≠ ⊤ := fun e => by rw [e] at h; simp at h
  have h2 : a ≠ ⊥ := fun e => by rw [e] at h; simp at h
  exact ⟨a.toReal, (EReal.coe_toReal h1 h2).symm⟩

/-- Where the absolute value lies below infinity. -/
def small (x : FVec Ideal S200000x100 .f32) : IVec S200000x100 1 :=
  cmpf .olt (Host.absf x) (broadcastInDim S200000x100 ![] bcast_S_S200000x100 (constant S_ .f32 0x7F800000#32))

theorem small_real (x : FVec Ideal S200000x100 .f32) (n : Fin 200000) (c : Fin 100) (h : small x (ix2 n c) = 1#1) :
    ∃ r : ℝ, x (ix2 n c) = (r : EReal) := by
  refine real_of_abs _ ?_
  revert h
  pointwise [small]
  rw [Words.top, Ideal.absf_def]
  intro h
  by_contra hn
  rw [decide_eq_false hn] at h
  exact absurd h (by decide)

/-- Under the precondition the logits are reals. -/
theorem reals (x : FVec Ideal S200000x100 .f32) (l : IVec S200000 32) (h : fn (F := Ideal) x l = fun _ => 1#1) :
    ∃ r : Fin 200000 → Fin 100 → ℝ, ∀ n c, x (ix2 n c) = ((r n c : ℝ) : EReal) := by
  haveI : Subsingleton S_.Idx := ⟨fun a b => funext fun i => i.elim0⟩
  have e : fn (F := Ideal) x l ix0 = 1#1 := congrFun h ix0
  unfold fn at e
  have ha : ∀ n c, ∃ r : ℝ, x (ix2 n c) = (r : EReal) := fun n c =>
    small_real x n c (Host.reduce_andi_all (small x) _ reducesTo_S200000x100_S_d0_1 h_S_ ix0 e (ix2 n c))
  choose r hr using ha
  exact ⟨r, hr⟩

end Cert.Pre_finite_logits.Body
-- ==== Proof.Equal.lean ====
/- The equation: from one memory with real logits, the idealised kernel and the reference end with the same number. -/
module

public import proofs.«01_k».proof.Proof.KernelIdeal.Launch
public import proofs.«01_k».proof.Proof.KernelIdeal.Value
public import proofs.«01_k».proof.Proof.Reference.Value
public import proofs.«01_k».proof.Proof.Reference.Frames
public import proofs.«01_k».proof.Proof.Finite
public import proofs.«01_k».proof.Defs

@[expose] public section

set_option maxRecDepth 16384

noncomputable section

open Idealize.ShloMosaic Idealize.ShloMosaic.TcCoe Idealize.SL.Sem

namespace Cert.Equal

/-- The kernel's answer, on real logits. -/
theorem kernel_answer (m : (ℓ : Loc Cert.KernelIdeal.nD Cert.KernelIdeal.τ Cert.KernelIdeal.sig) → Buf (Elt Ideal) ℓ)
    (c : Dev Cert.KernelIdeal.nD) (r : Fin 200000 → Fin 100 → ℝ)
    (hr : ∀ n k, Cert.KernelIdeal.Body.xs m c (ix2 n k) = ((r n k : ℝ) : EReal)) :
    Cert.KernelIdeal.Body.answer m c = fun _ => ((Reals.answer r (fun n => Cert.KernelIdeal.Body.labs m c (ix1 n)) : ℝ) : EReal) :=
  funext fun _ => Cert.KernelIdeal.Body.result_real _ _ r hr _

/-- The kernel's frame under the precondition: it needs none. -/
theorem kernel_frame : Cert.quiescent_KernelIdeal_pre_finite_logits := fun m ρ _ =>
  (θ_run Cert.KernelIdeal.defs _ _).mono (fun r h => ⟨fun c => (h.1 c).2, h.2⟩) (Cert.KernelIdeal.Body.run_main m ρ)

/-- The reference's frame under the precondition: it needs none. -/
theorem reference_frame : Cert.quiescent_ReferenceIdeal_pre_finite_logits := fun m ρ _ => Cert.ReferenceIdeal.Body.run_main m ρ

/-- On finite logits the idealised kernel and the reference end with equal results, their arguments as launched. -/
theorem algebraic : Cert.algebraic_KernelIdeal_ReferenceIdeal_pre_finite_logits := by
  intro m g m' g' hpre hagree
  refine ⟨fun c => Cert.KernelIdeal.Body.answer m c,
    (θ_run Cert.KernelIdeal.defs _ _).mono (fun r h => h.1) (Cert.KernelIdeal.Body.run_main m g),
    (θ_run Cert.ReferenceIdeal.defs _ _).mono (fun s h c => ⟨(h c).1.trans ?_, (h c).2⟩) (Cert.ReferenceIdeal.Body.ended m' g')⟩
  obtain ⟨r, hr⟩ := Cert.Pre_finite_logits.Body.reals _ _ (hpre c)
  have hr' : ∀ n k, (StableHlo.launchContents m' c) (Proc.devRef .tc Cert.ReferenceIdeal.main_arg0) (ix2 n k)
      = ((r n k : ℝ) : EReal) := fun n k => (congrFun (hagree c).1 (ix2 n k)).trans (hr n k)
  have hl : Cert.ReferenceIdeal.Body.labels (StableHlo.launchContents m' c)
      = fun n => Cert.KernelIdeal.Body.labs m c (ix1 n) := funext fun n => congrFun (hagree c).2 (ix1 n)
  refine Eq.trans ?_ (kernel_answer m c r hr).symm
  refine Eq.trans ?_ (congrArg (fun l => fun _ => ((Reals.answer r l : ℝ) : EReal)) hl)
  exact Cert.ReferenceIdeal.Body.mean_real _ r hr'

end Cert.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_finite_logits
public import proofs.«01_k».proof.Proof.Gen.ReferenceIdeal
public import proofs.«01_k».proof.Proof.Gen.ReferenceIdeal.Run
public import proofs.«01_k».proof.Proof.Kernel.Frames
public import proofs.«01_k».proof.Proof.KernelIdeal.Launch
public import proofs.«01_k».proof.Proof.Names
public import proofs.«01_k».proof.Proof.Equal
public import proofs.«01_k».proof.Proof.Reference.Frames

@[expose] public section

noncomputable section

namespace Cert.Proof

open Idealize.ShloMosaic Idealize.SL.Sem

/-- The claims hold. -/
theorem claim : Cert.Claim := ⟨Cert.Kernel.Gen.facts, Cert.KernelIdeal.Gen.facts, Cert.ReferenceIdeal.Gen.facts,
  Cert.Pre_finite_logits.Gen.facts, Cert.Kernel.Body.frame, Cert.KernelIdeal.Body.frame, Cert.Equal.kernel_frame,
  Cert.ReferenceIdeal.Body.frame, Cert.Equal.reference_frame, Cert.Names.preserves, Cert.Equal.algebraic⟩

end Cert.Proof

end
